-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S512x4096 : Shape := ⟨2, ![512, 4096]⟩
abbrev S7 : Shape := ⟨1, ![7]⟩
abbrev S8 : Shape := ⟨1, ![8]⟩
abbrev S_ : Shape := ⟨0, ![]⟩
abbrev S512x512 : Shape := ⟨2, ![512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .i8⟩
  | .local _ .vmem, ⟨1, _⟩ => ⟨S4096x2048, .i8⟩
  | .local _ .vmem, ⟨2, _⟩ => ⟨S512x2048, .f32⟩
  | .local _ .vmem, ⟨3, _⟩ => ⟨S512x4096, .i8⟩
  | .local _ .vmem, ⟨4, _⟩ => ⟨S512x2048, .i32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch4 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_29 : BitVec 32 := 512#32
  let v33 : BitVec 32 := Scalar.muli v2 c512_i32_29
  ![0, v33.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v32 : BitVec 32 := Scalar.muli v2 c512_i32
  let c0_i32_31 : BitVec 32 := 0#32
  ![v32.toNat, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.addi v2 c1_i32_32
  let c8_i32_33 : BitVec 32 := 8#32
  let v37 : BitVec 32 := Scalar.remsi v36 c8_i32_33
  let c512_i32_34 : BitVec 32 := 512#32
  let v38 : BitVec 32 := Scalar.muli v37 c512_i32_34
  let c0_i32_40 : BitVec 32 := 0#32
  ![v38.toNat, 0]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v36 : BitVec 32 := Scalar.addi v2 c1_i32_32
  let c8_i32_33 : BitVec 32 := 8#32
  let v37 : BitVec 32 := Scalar.remsi v36 c8_i32_33
  let c1_i32_37 : BitVec 32 := 1#32
  let v40 : BitVec 32 := Scalar.muli v37 c1_i32_37
  let v41 : BitVec 32 := Scalar.addi c0_i32_38 v40
  v41.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_41 : BitVec 32 := 2#32
  let v48 : BitVec 32 := Scalar.addi v2 c2_i32_41
  let c8_i32_42 : BitVec 32 := 8#32
  let v49 : BitVec 32 := Scalar.remsi v48 c8_i32_42
  let c1_i32_46 : BitVec 32 := 1#32
  let v52 : BitVec 32 := Scalar.muli v49 c1_i32_46
  let v53 : BitVec 32 := Scalar.addi c0_i32_47 v52
  v53.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v60 : BitVec 32 := Scalar.addi v2 c3_i32_50
  let c8_i32_51 : BitVec 32 := 8#32
  let v61 : BitVec 32 := Scalar.remsi v60 c8_i32_51
  let c1_i32_55 : BitVec 32 := 1#32
  let v64 : BitVec 32 := Scalar.muli v61 c1_i32_55
  let v65 : BitVec 32 := Scalar.addi c0_i32_56 v64
  v65.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_59 : BitVec 32 := 4#32
  let v72 : BitVec 32 := Scalar.addi v2 c4_i32_59
  let c8_i32_60 : BitVec 32 := 8#32
  let v73 : BitVec 32 := Scalar.remsi v72 c8_i32_60
  let c1_i32_64 : BitVec 32 := 1#32
  let v76 : BitVec 32 := Scalar.muli v73 c1_i32_64
  let v77 : BitVec 32 := Scalar.addi c0_i32_65 v76
  v77.toNat
def k0_dev12 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_68 : BitVec 32 := 5#32
  let v84 : BitVec 32 := Scalar.addi v2 c5_i32_68
  let c8_i32_69 : BitVec 32 := 8#32
  let v85 : BitVec 32 := Scalar.remsi v84 c8_i32_69
  let c1_i32_73 : BitVec 32 := 1#32
  let v88 : BitVec 32 := Scalar.muli v85 c1_i32_73
  let v89 : BitVec 32 := Scalar.addi c0_i32_74 v88
  v89.toNat
def k0_dev13 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_77 : BitVec 32 := 6#32
  let v96 : BitVec 32 := Scalar.addi v2 c6_i32_77
  let c8_i32_78 : BitVec 32 := 8#32
  let v97 : BitVec 32 := Scalar.remsi v96 c8_i32_78
  let c1_i32_82 : BitVec 32 := 1#32
  let v100 : BitVec 32 := Scalar.muli v97 c1_i32_82
  let v101 : BitVec 32 := Scalar.addi c0_i32_83 v100
  v101.toNat
def k0_dev14 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_86 : BitVec 32 := 7#32
  let v108 : BitVec 32 := Scalar.addi v2 c7_i32_86
  let c8_i32_87 : BitVec 32 := 8#32
  let v109 : BitVec 32 := Scalar.remsi v108 c8_i32_87
  let c1_i32_91 : BitVec 32 := 1#32
  let v112 : BitVec 32 := Scalar.muli v109 c1_i32_91
  let v113 : BitVec 32 := Scalar.addi c0_i32_92 v112
  v113.toNat
def k0_off5 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_97 : BitVec 32 := 512#32
  let v122 : BitVec 32 := Scalar.muli v2 c512_i32_97
  let v123 : Index := Scalar.indexCast v122
  ![0, v123.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_98 : BitVec 32 := 512#32
  let v125 : BitVec 32 := Scalar.muli v2 c512_i32_98
  let v126 : Index := Scalar.indexCast v125
  let c0_99 : Index := 0#32
  ![v126.toNat, 0]
def k0_off7 (d0 : Dev nD) (c7_i32_104 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : BitVec 32 := Scalar.addi v2 c7_i32_104
  let c8_i32_105 : BitVec 32 := 8#32
  let v135 : BitVec 32 := Scalar.remsi v134 c8_i32_105
  ![v135.toNat]
def k0_off8 (d0 : Dev nD) (c7_i32_104 : BitVec 32) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : BitVec 32 := Scalar.addi v2 c7_i32_104
  let c8_i32_105 : BitVec 32 := 8#32
  let v135 : BitVec 32 := Scalar.remsi v134 c8_i32_105
  let c512_i32_107 : BitVec 32 := 512#32
  let v137 : BitVec 32 := Scalar.muli v135 c512_i32_107
  ![0, v137.toNat]
def k0_off9 (d0 : Dev nD) (c7_i32_104 : BitVec 32) : Fin 2 → Nat :=
  let c0_114 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : BitVec 32 := Scalar.addi v2 c7_i32_104
  let c8_i32_105 : BitVec 32 := 8#32
  let v135 : BitVec 32 := Scalar.remsi v134 c8_i32_105
  let c512_i32_113 : BitVec 32 := 512#32
  let v144 : BitVec 32 := Scalar.muli v135 c512_i32_113
  let v145 : Index := Scalar.indexCast v144
  ![0, v145.toNat]
def k0_off10 (d0 : Dev nD) (c7_i32_104 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : BitVec 32 := Scalar.addi v2 c7_i32_104
  let c8_i32_105 : BitVec 32 := 8#32
  let v135 : BitVec 32 := Scalar.remsi v134 c8_i32_105
  let c512_i32_115 : BitVec 32 := 512#32
  let v147 : BitVec 32 := Scalar.muli v135 c512_i32_115
  let v148 : Index := Scalar.indexCast v147
  let c0_116 : Index := 0#32
  ![v148.toNat, 0]
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.KernelIdealCells.lean ====
/-
# The all-to-all's devices, buffers, semaphores and contents

Eight devices. Device `c` holds a column block of `x` (4096 × 512) and the whole of `w`. The kernel sends row block
`d` (rows `512 d …`) of its `x` to device `d`, which keeps it in column slot `c` of its receive buffer, copies its own
row block into its own slot, and multiplies each slot by the matching rows of `w`.

This module names the peers (`pe c h`, the device `h + 1` places after `c`), the memrefs (row blocks of `x`, column
slots of the receive buffer), the semaphores (the barrier, seven send, eight receive, one local) and the contents that
are moved. It also cuts the two buffers into the pieces that travel on their own.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the all-to-all's, whose duties are named by the device that pays them -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

set_option backward.proofsInPublic true in
/-- The device `h + 1` places after `c`. -/
def pe (c : Dev nD) (h : Fin 7) : Dev nD := ⟨(c.val + h.val + 1) % 8, Nat.mod_lt _ (by decide)⟩

theorem pe_ne (c : Dev nD) (h : Fin 7) : pe c h ≠ c := by revert c h; decide
theorem pe_inj (c : Dev nD) {h h' : Fin 7} (e : pe c h = pe c h') : h = h' := by revert c h h'; decide
/-- A fixed distance from two devices to one device: they are the same. -/
theorem pe_left (h : Fin 7) {c c' : Dev nD} (e : pe c h = pe c' h) : c = c' := by revert c c' h; decide

/-- All devices: `c` and its seven peers. -/
def ringOf (c : Dev nD) : List (Dev nD) := [c, pe c 0, pe c 1, pe c 2, pe c 3, pe c 4, pe c 5, pe c 6]
theorem ringOf_univ (c : Dev nD) : (Finset.univ : Finset (Dev nD)) = (ringOf c).toFinset := by revert c; decide
theorem ringOf_nodup (c : Dev nD) : (ringOf c).Nodup := by revert c; decide
/-- All devices but `c`: its seven peers. -/
def peersOf (c : Dev nD) : List (Dev nD) := [pe c 0, pe c 1, pe c 2, pe c 3, pe c 4, pe c 5, pe c 6]
theorem peersOf_eq (c : Dev nD) : (Finset.univ : Finset (Dev nD)).erase c = (peersOf c).toFinset := by revert c; decide
theorem peersOf_nodup (c : Dev nD) : (peersOf c).Nodup := by revert c; decide

omit [FloatOps F] in
/-- Something per device, read from `c` on. -/
theorem around (c : Dev nD) (Φ : Dev nD → sProp 𝕄) : bigSep Finset.univ Φ
    = iprop(Φ c ∗ Φ (pe c 0) ∗ Φ (pe c 1) ∗ Φ (pe c 2) ∗ Φ (pe c 3) ∗ Φ (pe c 4) ∗ Φ (pe c 5) ∗ Φ (pe c 6)) :=
  bigSep_univ_eq_bigSepL (ringOf c) (ringOf_univ c) (ringOf_nodup c) Φ
omit [FloatOps F] in
/-- Something per peer of `c`. -/
theorem peers (c : Dev nD) (Φ : Dev nD → sProp 𝕄) : bigSep (Finset.univ.erase c) Φ
    = iprop(Φ (pe c 0) ∗ Φ (pe c 1) ∗ Φ (pe c 2) ∗ Φ (pe c 3) ∗ Φ (pe c 4) ∗ Φ (pe c 5) ∗ Φ (pe c 6)) :=
  bigSep_eq_bigSepL_of_eq (peersOf c) (peersOf_eq c) (peersOf_nodup c) Φ

/-- The kernel's chains of device numbers: the signals and the transfers both name the peers in order. -/
theorem dev1_eq (c : Dev nD) : (⟨k0_dev1 c, k0_dev1_lt c⟩ : Dev nD) = pe c 0 := Fin.ext (k0_dev1_eq c)
theorem dev2_eq (c : Dev nD) : (⟨k0_dev2 c, k0_dev2_lt c⟩ : Dev nD) = pe c 1 := Fin.ext (k0_dev2_eq c)
theorem dev3_eq (c : Dev nD) : (⟨k0_dev3 c, k0_dev3_lt c⟩ : Dev nD) = pe c 2 := Fin.ext (k0_dev3_eq c)
theorem dev4_eq (c : Dev nD) : (⟨k0_dev4 c, k0_dev4_lt c⟩ : Dev nD) = pe c 3 := Fin.ext (k0_dev4_eq c)
theorem dev5_eq (c : Dev nD) : (⟨k0_dev5 c, k0_dev5_lt c⟩ : Dev nD) = pe c 4 := Fin.ext (k0_dev5_eq c)
theorem dev6_eq (c : Dev nD) : (⟨k0_dev6 c, k0_dev6_lt c⟩ : Dev nD) = pe c 5 := Fin.ext (k0_dev6_eq c)
theorem dev7_eq (c : Dev nD) : (⟨k0_dev7 c, k0_dev7_lt c⟩ : Dev nD) = pe c 6 := Fin.ext (k0_dev7_eq c)
theorem dev8_eq (c : Dev nD) : (⟨k0_dev8 c, k0_dev8_lt c⟩ : Dev nD) = pe c 0 := Fin.ext (k0_dev8_eq c)
theorem dev9_eq (c : Dev nD) : (⟨k0_dev9 c, k0_dev9_lt c⟩ : Dev nD) = pe c 1 := Fin.ext (k0_dev9_eq c)
theorem dev10_eq (c : Dev nD) : (⟨k0_dev10 c, k0_dev10_lt c⟩ : Dev nD) = pe c 2 := Fin.ext (k0_dev10_eq c)
theorem dev11_eq (c : Dev nD) : (⟨k0_dev11 c, k0_dev11_lt c⟩ : Dev nD) = pe c 3 := Fin.ext (k0_dev11_eq c)
theorem dev12_eq (c : Dev nD) : (⟨k0_dev12 c, k0_dev12_lt c⟩ : Dev nD) = pe c 4 := Fin.ext (k0_dev12_eq c)
theorem dev13_eq (c : Dev nD) : (⟨k0_dev13 c, k0_dev13_lt c⟩ : Dev nD) = pe c 5 := Fin.ext (k0_dev13_eq c)
theorem dev14_eq (c : Dev nD) : (⟨k0_dev14 c, k0_dev14_lt c⟩ : Dev nD) = pe c 6 := Fin.ext (k0_dev14_eq c)

/-! ## The memrefs -/

abbrev xM : Memref sig .tc .vmem S4096x512 .i8 := Memref.whole cc0_stg0_0
abbrev wM : Memref sig .tc .vmem S4096x2048 .i8 := Memref.whole cc0_stg1_0
abbrev sxM : Memref sig .tc .smem S1 .f32 := Memref.whole cc0_stg2_0
abbrev swM : Memref sig .tc .smem S1 .f32 := Memref.whole cc0_stg3_0
abbrev oM : Memref sig .tc .vmem S512x2048 .f32 := Memref.whole cc0_stg4_0
abbrev rM : Memref sig .tc .vmem S512x4096 .i8 := Memref.whole cc0_scratch0
abbrev aM : Memref sig .tc .vmem S512x2048 .i32 := Memref.whole cc0_scratch4

theorem xInb (d : Dev nD) : ∀ a : Fin S4096x512.rank, (![512 * d.val, 0] : Fin 2 → ℕ) a + S512x512.size a ≤ S4096x512.size a := by
  revert d; decide
theorem rInb (d : Dev nD) : ∀ a : Fin S512x4096.rank, (![0, 512 * d.val] : Fin 2 → ℕ) a + S512x512.size a ≤ S512x4096.size a := by
  revert d; decide
theorem wInb (d : Dev nD) : ∀ a : Fin S4096x2048.rank, (![512 * d.val, 0] : Fin 2 → ℕ) a + S512x2048.size a ≤ S4096x2048.size a := by
  revert d; decide

/-- Row block `d` of `x`, column slot `s` of the receive buffer, row block `s` of `w`, as rectangles; -/
abbrev xRect (d : Dev nD) : Rect S4096x512 := Rect.unit (s := S4096x512) ![512 * d.val, 0] S512x512.size (xInb d)
abbrev rRect (s : Dev nD) : Rect S512x4096 := Rect.unit (s := S512x4096) ![0, 512 * s.val] S512x512.size (rInb s)
abbrev wRect (s : Dev nD) : Rect S4096x2048 := Rect.unit (s := S4096x2048) ![512 * s.val, 0] S512x2048.size (wInb s)

/-- and the first two as memrefs. -/
abbrev xBlk (d : Dev nD) : Memref sig .tc .vmem S512x512 .i8 := xM.slice (xRect d) (fun _ => rfl)
abbrev cSlot (s : Dev nD) : Memref sig .tc .vmem S512x512 .i8 := rM.slice (rRect s) (fun _ => rfl)

/-- A slice at an equal offset is the same memref. -/
theorem xSlice_eq (d : Dev nD) {off : Fin 2 → ℕ} (e : off = ![512 * d.val, 0]) (hi) :
    xM.slice (Rect.unit (s := S4096x512) off S512x512.size hi) (fun _ => rfl) = xBlk d := by subst e; rfl
theorem rSlice_eq (s : Dev nD) {off : Fin 2 → ℕ} (e : off = ![0, 512 * s.val]) (hi) :
    rM.slice (Rect.unit (s := S512x4096) off S512x512.size hi) (fun _ => rfl) = cSlot s := by subst e; rfl
theorem rRect_eq (s : Dev nD) {off : Fin 2 → ℕ} (e : off = ![0, 512 * s.val]) (hi) :
    Rect.unit (s := S512x4096) off S512x512.size hi = rRect s := by subst e; rfl
theorem wRect_eq (s : Dev nD) {off : Fin 2 → ℕ} (e : off = ![512 * s.val, 0]) (hi) :
    Rect.unit (s := S4096x2048) off S512x2048.size hi = wRect s := by subst e; rfl

/-! ## The semaphores and cells -/

/-- The runtime's barrier semaphore; -/
abbrev barS : Sem sig := (SemArray.scalar (sig.barrier 0 rfl) : Sems sig S_).sem
set_option backward.proofsInPublic true in
/-- the send semaphore of transfer `h`; -/
def sendS (h : Fin 7) : DmaSem sig := ⟨5 + h.val, by show _ < 21; omega⟩
set_option backward.proofsInPublic true in
/-- the receive semaphore of slot `s`; -/
def recvS (s : Dev nD) : DmaSem sig := ⟨12 + s.val, by show _ < 21; have : s.val < 8 := s.isLt; omega⟩
set_option backward.proofsInPublic true in
/-- and the local copy's. -/
def locS : DmaSem sig := ⟨20, by show _ < 21; omega⟩

theorem sendS_eq (h : Fin 7) (hi) :
    ((cc0_scratch1.slice (Rect.unit (s := S7) ![h.val] S1.size hi)).squeeze S_ squeezes_S1_S_).sem = sendS h := by
  revert h; decide
theorem recvS_eq (s : Dev nD) (hi) :
    ((cc0_scratch2.slice (Rect.unit (s := S8) ![s.val] S1.size hi)).squeeze S_ squeezes_S1_S_).sem = recvS s := by
  revert s; decide
theorem recvSem_eq (s : Dev nD) {off : Fin 1 → ℕ} (e : off = ![s.val]) (hi) :
    ((cc0_scratch2.slice (Rect.unit (s := S8) off S1.size hi)).squeeze S_ squeezes_S1_S_).sem = recvS s := by
  subst e; exact recvS_eq s hi
theorem locS_eq : cc0_scratch3.sem = locS := by decide

abbrev barCell (c : Dev nD) : GSem nD τ sig := ((c : Thread nD τ), .reg barS)
abbrev sendCell (c : Dev nD) (h : Fin 7) : GSem nD τ sig := ((c : Thread nD τ), .dma (sendS h))
abbrev recvCell (c s : Dev nD) : GSem nD τ sig := ((c : Thread nD τ), .dma (recvS s))
abbrev locCell (c : Dev nD) : GSem nD τ sig := ((c : Thread nD τ), .dma locS)

/-- What a landing of one 512 × 512 block of bytes credits. -/
abbrev N : ℕ := (cSlot 0).view.dmaCredit
theorem N_pos : 0 < N := View.dmaCredit_pos _ (by decide)

/-! ## Contents -/

/-- A device's operands as the kernel finds them: `x`, `w` and the two scales. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- Row block `d` of device `s`'s `x`: what device `d` receives from `s`. -/
def xPart (s d : Dev nD) : Vec F S512x512 .i8 := (xBlk d).view.read (Elt F) (xstg m ρ s)
/-- Row block `s` of device `c`'s `w`. -/
def wPart (s c : Dev nD) : Vec F S512x2048 .i8 := (wM.access (wRect s)).read (Elt F) (wstg m ρ c)

/-- The rectangle of one scale. -/
abbrev r1 : Rect S1 := Rect.unit (s := S1) ![0] S1.size inb_S1_S1_0
/-- The two scales as the kernel reads them. -/
def sxVal (c : Dev nD) : Elt F .f32 := (sxM.access r1).read (Elt F) (sxstg m ρ c) (Shape.Idx.first (numel1_S1.symm ▸ Nat.one_pos))
def swVal (c : Dev nD) : Elt F .f32 := (swM.access r1).read (Elt F) (swstg m ρ c) (Shape.Idx.first (numel1_S1.symm ▸ Nat.one_pos))

/-! ## The pieces -/

/-- Row block `d` of `x` on device `c`; -/
def xPts (c d : Dev nD) : sProp 𝕄 := (xBlk d).view.loc (c : Thread nD τ) ↦[(xBlk d).view.set]{fullShare} xstg m ρ c
/-- slot `s` of device `c`'s receive buffer at given contents of the buffer, -/
def slotPts (c s : Dev nD) (f : Buf (Elt F) ((c : Thread nD τ).loc cc0_scratch0)) : sProp 𝕄 :=
  (cSlot s).view.loc (c : Thread nD τ) ↦[(cSlot s).view.set]{fullShare} f
/-- at any contents, -/
def slotAny (c s : Dev nD) : sProp 𝕄 := iprop(∃ f, slotPts c s f)
/-- and holding the block `X`. -/
def slotAt (c s : Dev nD) (X : Vec F S512x512 .i8) : sProp 𝕄 :=
  iprop(∃ f, ⌜(cSlot s).view.read (Elt F) f = X⌝ ∗ slotPts c s f)

omit [FloatOps F] in
instance xPts_storable (c d : Dev nD) : BI.Storable (upEmb : UEmb _ 𝕄) (xPts (F := F) m ρ c d) := by unfold xPts; infer_instance
omit [FloatOps F] in
instance slotPts_storable (c s : Dev nD) (f) : BI.Storable (upEmb : UEmb _ 𝕄) (slotPts (F := F) c s f) := by unfold slotPts; infer_instance
omit [FloatOps F] in
instance slotAny_storable (c s : Dev nD) : BI.Storable (upEmb : UEmb _ 𝕄) (slotAny (F := F) c s) := by unfold slotAny; infer_instance
omit [FloatOps F] in
instance slotAt_storable (c s : Dev nD) (X) : BI.Storable (upEmb : UEmb _ 𝕄) (slotAt (F := F) c s X) := by unfold slotAt; infer_instance

omit [FloatOps F] in
theorem slotPts_any (c s : Dev nD) (f) : (slotPts c s f : sProp 𝕄) ⊢ slotAny c s := by
  unfold slotAny
  iintro H
  iexists f; iexact H
omit [FloatOps F] in
theorem slotAt_any (c s : Dev nD) (X : Vec F S512x512 .i8) : (slotAt c s X : sProp 𝕄) ⊢ slotAny c s := by
  unfold slotAt slotAny
  iintro ⟨%f, -, H⟩
  iexists f; iexact H

/-! ## Cutting `x` into row blocks and the receive buffer into slots -/

theorem xSet_mem (d : Dev nD) (i : S4096x512.Idx) : i ∈ (xBlk d).view.set ↔ (i 0).val / 512 = d.val := by
  have h : (xBlk d).view.set = (xRect d).set := View.set_slice_whole _ _
  have h0 : (i 0).val < 4096 := (i 0).isLt
  have h1 : (i 1).val < 512 := (i 1).isLt
  rw [h, Rect.mem_set_unit]
  constructor
  · intro H
    have : 512 * d.val ≤ (i 0).val ∧ (i 0).val < 512 * d.val + 512 := H 0
    omega
  · intro H a
    fin_cases a
    · show 512 * d.val ≤ (i 0).val ∧ (i 0).val < 512 * d.val + 512
      omega
    · show 0 ≤ (i 1).val ∧ (i 1).val < 0 + 512
      omega
theorem rSet_mem (s : Dev nD) (i : S512x4096.Idx) : i ∈ (cSlot s).view.set ↔ (i 1).val / 512 = s.val := by
  have h : (cSlot s).view.set = (rRect s).set := View.set_slice_whole _ _
  have h0 : (i 0).val < 512 := (i 0).isLt
  have h1 : (i 1).val < 4096 := (i 1).isLt
  rw [h, Rect.mem_set_unit]
  constructor
  · intro H
    have : 512 * s.val ≤ (i 1).val ∧ (i 1).val < 512 * s.val + 512 := H 1
    omega
  · intro H a
    fin_cases a
    · show 0 ≤ (i 0).val ∧ (i 0).val < 0 + 512
      omega
    · show 512 * s.val ≤ (i 1).val ∧ (i 1).val < 512 * s.val + 512
      omega

theorem xSet_disj (d d' : Dev nD) (h : d ≠ d') : Disjoint (xBlk d).view.set (xBlk d').view.set :=
  Finset.disjoint_left.mpr fun i hi hi' => h (Fin.ext (((xSet_mem d i).mp hi).symm.trans ((xSet_mem d' i).mp hi')))
theorem rSet_disj (s s' : Dev nD) (h : s ≠ s') : Disjoint (cSlot s).view.set (cSlot s').view.set :=
  Finset.disjoint_left.mpr fun i hi hi' => h (Fin.ext (((rSet_mem s i).mp hi).symm.trans ((rSet_mem s' i).mp hi')))
theorem xSet_cover : (Finset.univ : Finset (Dev nD)).biUnion (fun d => (show Finset S4096x512.Idx from (xBlk d).view.set)) = Finset.univ :=
  Finset.eq_univ_of_forall fun i => by
    have h0 : (i 0).val < 4096 := (i 0).isLt
    exact Finset.mem_biUnion.mpr ⟨⟨(i 0).val / 512, by show _ < 8; omega⟩, Finset.mem_univ _,
      (xSet_mem _ i).mpr rfl⟩
theorem rSet_cover : (Finset.univ : Finset (Dev nD)).biUnion (fun s => (show Finset S512x4096.Idx from (cSlot s).view.set)) = Finset.univ :=
  Finset.eq_univ_of_forall fun i => by
    have h0 : (i 1).val < 4096 := (i 1).isLt
    exact Finset.mem_biUnion.mpr ⟨⟨(i 1).val / 512, by show _ < 8; omega⟩, Finset.mem_univ _,
      (rSet_mem _ i).mpr rfl⟩

omit [FloatOps F] in
/-- `x` held whole is its eight row blocks held; -/
theorem xPts_all (c : Dev nD) : (((c : Thread nD τ).loc cc0_stg0_0) ↦{fullShare} xstg m ρ c : sProp 𝕄)
    = bigSep Finset.univ fun d : Dev nD => xPts m ρ c d :=
  Ring.pointsTo_blocks (ℓ := (c : Thread nD τ).loc cc0_stg0_0) (fun d : Dev nD => (xBlk d).view.set) xSet_disj xSet_cover (xstg m ρ c)
omit [FloatOps F] in
/-- the receive buffer held whole gives its eight slots, -/
theorem slots_split (c : Dev nD) : (iprop(∃ f : Buf (Elt F) ((c : Thread nD τ).loc cc0_scratch0), ((c : Thread nD τ).loc cc0_scratch0) ↦{fullShare} f) : sProp 𝕄)
    ⊢ bigSep Finset.univ fun s : Dev nD => slotAny c s := by
  iintro ⟨%f, H⟩
  iapply ((Entails.of_eq (Ring.pointsTo_blocks (ℓ := (c : Thread nD τ).loc cc0_scratch0) (fun s : Dev nD => (cSlot s).view.set) rSet_disj rSet_cover f)).trans
    (bigSep_mono fun s _ => slotPts_any c s f))
  iexact H
omit [FloatOps F] in
/-- and the eight slots give it back. -/
theorem slots_join (c : Dev nD) : (bigSep Finset.univ fun s : Dev nD => slotAny c s)
    ⊢ (iprop(∃ f : Buf (Elt F) ((c : Thread nD τ).loc cc0_scratch0), ((c : Thread nD τ).loc cc0_scratch0) ↦{fullShare} f) : sProp 𝕄) :=
  Ring.pointsTo_blocks_join_exists (ℓ := (c : Thread nD τ).loc cc0_scratch0) (fun s : Dev nD => (cSlot s).view.set) rSet_disj rSet_cover
    (fun _ => (0 : BitVec 8))

end Cert.KernelIdealRun

end
-- ==== Proof.KernelIdealSchedule.lean ====
/-
# The all-to-all's schedule: who pays which semaphore, and what each payment hands over

One round. The duties of a cell are named by the device that pays them:

* barrier cell of `c`: every other device `d` pays one unit and hands over its slot `c` (the slot `c` will fill);
* receive cell `s` of `c`, `s ≠ c`: device `s`'s transfer pays a block's credit; the slot arrives holding row block `c`
  of device `s`'s `x`;
* send cell `h` of `c`: `c`'s own transfer to `pe c h` pays it; the source rows come back;
* the local copy's cell of `c`: `c`'s own copy pays it; the slot `c` holding `c`'s own row block and the source rows
  come back.

Waits happen in the order barrier, local copy, receives, sends, so barrier cells stand below receive cells.
-/
module

public import proofs.«01_k».proof.Proof.KernelIdealCells

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a semaphore is for -/

inductive Kind where
  | bar | send (h : Fin 7) | recv (s : Dev nD) | loc | other
  deriving DecidableEq

set_option backward.proofsInPublic true in
def kind : SemLoc sig → Kind
  | .reg s => if s = barS then .bar else .other
  | .dma q =>
    if h₁ : q.val < 5 then .other
    else if h₂ : q.val < 12 then .send ⟨q.val - 5, by omega⟩
    else if h₃ : q.val < 20 then .recv ⟨q.val - 12, by show _ < 8; omega⟩
    else .loc

theorem kind_bar : kind (.reg barS) = .bar := by simp only [kind, if_true]
theorem kind_send (h : Fin 7) : kind (.dma (sendS h)) = .send h := by revert h; decide
theorem kind_recv (s : Dev nD) : kind (.dma (recvS s)) = .recv s := by revert s; decide
theorem kind_loc : kind (.dma locS) = .loc := by decide

/-! ## The schedule -/

/-- Who pays cell `g` in round 0. -/
def payers (k : Kind) (c : Dev nD) : Finset (Dev nD) :=
  match k with
  | .bar => Finset.univ.erase c
  | .send _ => {c}
  | .recv s => if s = c then ∅ else {s}
  | .loc => {c}
  | .other => ∅

/-- What a payment by `d` hands device `c`. -/
def pay (k : Kind) (c d : Dev nD) : sProp 𝕄 :=
  match k with
  | .bar => slotAny d c
  | .send h => xPts m ρ c (pe c h)
  | .recv s => slotAt c s (xPart m ρ s c)
  | .loc => iprop(slotAt c c (xPart m ρ c c) ∗ xPts m ρ c c)
  | .other => iprop(emp)

def ringRd : Rounds.Schedule (GSem nD τ sig) (Dev nD) 𝕄 where
  duties g r := if r = 0 ∧ g.1.2 = .tc then payers (kind g.2) g.1.1 else ∅
  unitless _ := False
  amount g _ _ := if kind g.2 = .bar then 1 else N
  payload g _ d := pay m ρ (kind g.2) g.1.1 d
  amount_pos g _ _ _ := by
    by_cases h : kind g.2 = .bar
    · rw [if_pos h]; exact Nat.one_pos
    · rw [if_neg h]; exact N_pos

instance pay_storable (k : Kind) (c d : Dev nD) : BI.Storable (upEmb : UEmb _ 𝕄) (pay (F := F) m ρ k c d) := by
  unfold pay; split <;> infer_instance
instance ringRd_payload_storable (g : GSem nD τ sig) (r : ℕ) (d : Dev nD) :
    BI.Storable (upEmb : UEmb _ 𝕄) ((ringRd (F := F) m ρ).payload g r d) := pay_storable m ρ _ _ _

section Sched
variable (c : Dev nD)

omit [FloatOps F] in
theorem duties_eq (sm : SemLoc sig) : (ringRd (F := F) m ρ).duties ((c : Thread nD τ), sm) 0 = payers (kind sm) c := by
  dsimp only [ringRd]; exact if_pos ⟨rfl, rfl⟩
omit [FloatOps F] in
theorem duties_bar : (ringRd (F := F) m ρ).duties (barCell c) 0 = Finset.univ.erase c := by rw [duties_eq, kind_bar]; rfl
omit [FloatOps F] in
theorem duties_send (h : Fin 7) : (ringRd (F := F) m ρ).duties (sendCell c h) 0 = {c} := by rw [duties_eq, kind_send]; rfl
omit [FloatOps F] in
theorem duties_recv (s : Dev nD) (hs : s ≠ c) : (ringRd (F := F) m ρ).duties (recvCell c s) 0 = {s} := by
  rw [duties_eq, kind_recv]; exact if_neg hs
omit [FloatOps F] in
theorem duties_recv_self : (ringRd (F := F) m ρ).duties (recvCell c c) 0 = ∅ := by
  rw [duties_eq, kind_recv]; exact if_pos rfl
omit [FloatOps F] in
theorem duties_loc : (ringRd (F := F) m ρ).duties (locCell c) 0 = {c} := by rw [duties_eq, kind_loc]; rfl
omit [FloatOps F] in
theorem duties_later (g : GSem nD τ sig) : ∀ r, 1 ≤ r → (ringRd (F := F) m ρ).duties g r = ∅ :=
  fun r hr => if_neg fun h => by omega

omit [FloatOps F] in
theorem amount_bar (d : Dev nD) : (ringRd (F := F) m ρ).amount (barCell c) 0 d = 1 := by
  dsimp only [ringRd]; exact if_pos kind_bar
omit [FloatOps F] in
theorem amount_send (h : Fin 7) (d : Dev nD) : (ringRd (F := F) m ρ).amount (sendCell c h) 0 d = N := by
  dsimp only [ringRd]; rw [kind_send]; exact if_neg (fun e => by cases e)
omit [FloatOps F] in
theorem amount_recv (s d : Dev nD) : (ringRd (F := F) m ρ).amount (recvCell c s) 0 d = N := by
  dsimp only [ringRd]; rw [kind_recv]; exact if_neg (fun e => by cases e)
omit [FloatOps F] in
theorem amount_loc (d : Dev nD) : (ringRd (F := F) m ρ).amount (locCell c) 0 d = N := by
  dsimp only [ringRd]; rw [kind_loc]; exact if_neg (fun e => by cases e)

omit [FloatOps F] in
theorem expect_bar : (ringRd (F := F) m ρ).expect (barCell c) 0 = 7 := by
  unfold Schedule.expect Schedule.amountOf
  rw [duties_bar, Finset.sum_congr rfl fun d _ => amount_bar m ρ c d, Finset.sum_const, smul_eq_mul, Nat.mul_one,
    Finset.card_erase_of_mem (Finset.mem_univ c), Finset.card_univ, Fintype.card_fin]
  rfl
omit [FloatOps F] in
theorem expect_send (h : Fin 7) : (ringRd (F := F) m ρ).expect (sendCell c h) 0 = N := by
  unfold Schedule.expect Schedule.amountOf; rw [duties_send, Finset.sum_singleton, amount_send]
omit [FloatOps F] in
theorem expect_recv (s : Dev nD) (hs : s ≠ c) : (ringRd (F := F) m ρ).expect (recvCell c s) 0 = N := by
  unfold Schedule.expect Schedule.amountOf; rw [duties_recv m ρ c s hs, Finset.sum_singleton, amount_recv]
omit [FloatOps F] in
theorem expect_loc : (ringRd (F := F) m ρ).expect (locCell c) 0 = N := by
  unfold Schedule.expect Schedule.amountOf; rw [duties_loc, Finset.sum_singleton, amount_loc]

omit [FloatOps F] in
theorem payload_bar (d : Dev nD) : (ringRd (F := F) m ρ).payload (barCell c) 0 d = slotAny d c := by
  show pay m ρ (kind (.reg barS)) c d = _; rw [kind_bar]; rfl
omit [FloatOps F] in
theorem payload_send (h : Fin 7) (d : Dev nD) : (ringRd (F := F) m ρ).payload (sendCell c h) 0 d = xPts m ρ c (pe c h) := by
  show pay m ρ (kind (.dma (sendS h))) c d = _; rw [kind_send]; rfl
omit [FloatOps F] in
theorem payload_recv (s d : Dev nD) : (ringRd (F := F) m ρ).payload (recvCell c s) 0 d = slotAt c s (xPart m ρ s c) := by
  show pay m ρ (kind (.dma (recvS s))) c d = _; rw [kind_recv]; rfl
omit [FloatOps F] in
theorem payload_loc (d : Dev nD) : (ringRd (F := F) m ρ).payload (locCell c) 0 d = iprop(slotAt c c (xPart m ρ c c) ∗ xPts m ρ c c) := by
  show pay m ρ (kind (.dma locS)) c d = _; rw [kind_loc]; rfl

omit [FloatOps F] in
/-- All that a wait on the barrier brings: slot `c` of every peer. -/
theorem rest_bar : bigSep ((ringRd (F := F) m ρ).duties (barCell c) 0 \ ∅) (fun d => (ringRd (F := F) m ρ).payload (barCell c) 0 d)
    = iprop(slotAny (pe c 0) c ∗ slotAny (pe c 1) c ∗ slotAny (pe c 2) c ∗ slotAny (pe c 3) c ∗ slotAny (pe c 4) c ∗ slotAny (pe c 5) c ∗ slotAny (pe c 6) c) := by
  rw [Finset.sdiff_empty, duties_bar, bigSep_congr fun d _ => payload_bar m ρ c d]
  exact peers c fun d => slotAny d c
omit [FloatOps F] in
theorem rest_send (h : Fin 7) : bigSep ((ringRd (F := F) m ρ).duties (sendCell c h) 0 \ ∅) (fun d => (ringRd (F := F) m ρ).payload (sendCell c h) 0 d)
    = xPts m ρ c (pe c h) := by
  rw [Finset.sdiff_empty, duties_send, bigSep_singleton, payload_send]
omit [FloatOps F] in
theorem rest_recv (s : Dev nD) (hs : s ≠ c) : bigSep ((ringRd (F := F) m ρ).duties (recvCell c s) 0 \ ∅) (fun d => (ringRd (F := F) m ρ).payload (recvCell c s) 0 d)
    = slotAt c s (xPart m ρ s c) := by
  rw [Finset.sdiff_empty, duties_recv m ρ c s hs, bigSep_singleton, payload_recv]
omit [FloatOps F] in
theorem rest_loc : bigSep ((ringRd (F := F) m ρ).duties (locCell c) 0 \ ∅) (fun d => (ringRd (F := F) m ρ).payload (locCell c) 0 d)
    = iprop(slotAt c c (xPart m ρ c c) ∗ xPts m ρ c c) := by
  rw [Finset.sdiff_empty, duties_loc, bigSep_singleton, payload_loc]

end Sched

/-! ## What each device owes at launch, and how a signal or a transfer pays it down -/

/-- The transfers from the `n`-th on: a block's credit to the receive cell each of them lands on. -/
def OR (c : Dev nD) (n : ℕ) : CellTallies nD τ sig Unit :=
  ∑ h ∈ Finset.univ.filter (fun h : Fin 7 => n ≤ h.val), tallyAt (recvCell (pe c h) c) () N
/-- All transfers, and the barrier signals from the `n`-th on: a unit each. -/
def OB (c : Dev nD) (n : ℕ) : CellTallies nD τ sig Unit :=
  OR c 0 + ∑ h ∈ Finset.univ.filter (fun h : Fin 7 => n ≤ h.val), tallyAt (barCell (pe c h)) () 1
/-- What a device owes at launch. -/
def O₀ (c : Dev nD) : CellTallies nD τ sig Unit := OB c 0

theorem from_succ (h : Fin 7) : Finset.univ.filter (fun k : Fin 7 => h.val ≤ k.val) = insert h (Finset.univ.filter (fun k : Fin 7 => h.val + 1 ≤ k.val)) := by
  revert h; decide
theorem not_from_succ (h : Fin 7) : h ∉ Finset.univ.filter (fun k : Fin 7 => h.val + 1 ≤ k.val) := by revert h; decide

theorem OR_peel (c : Dev nD) (h : Fin 7) : OR c h.val = OR c (h.val + 1) + tallyAt (recvCell (pe c h) c) () N := by
  unfold OR; rw [from_succ h, Finset.sum_insert (not_from_succ h), add_comm]
theorem OB_peel (c : Dev nD) (h : Fin 7) : OB c h.val = OB c (h.val + 1) + tallyAt (barCell (pe c h)) () 1 := by
  unfold OB; rw [from_succ h, Finset.sum_insert (not_from_succ h), add_assoc, add_comm (tallyAt _ _ _)]
theorem OR_end (c : Dev nD) : OR c 7 = 0 := by
  unfold OR; rw [show Finset.univ.filter (fun k : Fin 7 => 7 ≤ k.val) = ∅ by decide, Finset.sum_empty]
theorem OB_end (c : Dev nD) : OB c 7 = OR c 0 := by
  unfold OB; rw [show Finset.univ.filter (fun k : Fin 7 => 7 ≤ k.val) = ∅ by decide, Finset.sum_empty, add_zero]

theorem sum_tally_pos {S : Finset (Fin 7)} {cell : Fin 7 → GSem nD τ sig} {n : ℕ} {g : GSem nD τ sig} {u : Unit}
    (hp : 0 < (∑ h ∈ S, tallyAt (cell h) () n : CellTallies nD τ sig Unit) g u) : ∃ h, g = cell h := by
  rw [Finset.sum_apply, Finsupp.finset_sum_apply] at hp
  obtain ⟨h, -, hh⟩ := Finset.exists_ne_zero_of_sum_ne_zero hp.ne'
  rw [tallyAt_apply] at hh
  by_contra hn
  exact hh (if_neg fun e => hn ⟨h, e.1⟩)

theorem OR_pos {c : Dev nD} {n : ℕ} {g : GSem nD τ sig} {u : Unit} (hp : 0 < OR c n g u) : ∃ h, g = recvCell (pe c h) c :=
  sum_tally_pos (cell := fun h => recvCell (pe c h) c) hp
theorem O₀_pos {c : Dev nD} {g : GSem nD τ sig} {u : Unit} (hp : 0 < O₀ c g u) :
    (∃ h, g = recvCell (pe c h) c) ∨ ∃ h, g = barCell (pe c h) := by
  unfold O₀ OB at hp
  rw [Pi.add_apply, Finsupp.add_apply] at hp
  rcases Nat.eq_zero_or_pos (OR c 0 g u) with h0 | h0
  · rw [h0, Nat.zero_add] at hp
    exact .inr (sum_tally_pos (cell := fun h => barCell (pe c h)) hp)
  · exact .inl (OR_pos h0)

/-! ## Levels -/

def L (g : GSem nD τ sig) : Finset Unit := if g.1.2 = .tc then {()} else ∅
/-- Barrier cells at 1, receive cells at 2, everything else at 0. -/
def lv (g : GSem nD τ sig) (_ : Unit) : ℕ := match kind g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by show (match kind (.reg barS) with | .bar => 1 | .recv _ => 2 | _ => 0) = 1; rw [kind_bar]
theorem lv_recv (c s : Dev nD) : lv (recvCell c s) () = 2 := by show (match kind (.dma (recvS s)) with | .bar => 1 | .recv _ => 2 | _ => 0) = 2; rw [kind_recv]

omit [FloatOps F] in
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨h, rfl⟩ | ⟨h, rfl⟩ <;> exact Finset.mem_singleton_self _)
      (fun p hp => by
        rw [Finset.mem_singleton.mp hp]
        show (match kind (.dma q) with | .bar => 1 | .recv _ => 2 | _ => 0) ≤ 0
        rw [show kind (.dma q) = .other from dif_pos hq])
      (fun g u hg => by
        rcases O₀_pos hg with ⟨h, rfl⟩ | ⟨h, rfl⟩
        · rw [lv_recv]; decide
        · rw [lv_bar]; decide)
  · rw [MayWait_zero]; iintro -; iempintro

omit [FloatOps F] in
/-- At its barrier wait a device owes its seven transfers' credit: receive cells, above its barrier cell. -/
theorem mayWait_bar (c : Dev nD) :
    (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨h, rfl⟩ := OR_pos hg; exact Finset.mem_singleton_self _)
    (fun p hp => by rw [Finset.mem_singleton.mp hp]; exact (lv_bar c).le)
    (fun g u hg => by obtain ⟨h, rfl⟩ := OR_pos hg; rw [lv_recv]; decide)

/-! ## The cells in one numbering, and the records every device reads -/

/-- Barrier, the seven sends', the eight receives', the local copy's. -/
def csem (k : Fin 17) : SemLoc sig := if h : k.val = 0 then .reg barS else .dma (⟨4 + k.val, by show _ < 21; omega⟩ : DmaSem sig)
abbrev kcell (ck : Dev nD × Fin 17) : GSem nD τ sig := ((ck.1 : Thread nD τ), csem ck.2)

def kSend (h : Fin 7) : Fin 17 := ⟨1 + h.val, by omega⟩
def kRecv (s : Dev nD) : Fin 17 := ⟨8 + s.val, by have : s.val < 8 := s.isLt; omega⟩
def kLoc : Fin 17 := 16
theorem csem_bar : csem 0 = .reg barS := rfl
theorem csem_send (h : Fin 7) : csem (kSend h) = .dma (sendS h) := by revert h; decide
theorem csem_recv (s : Dev nD) : csem (kRecv s) = .dma (recvS s) := by revert s; decide
theorem csem_loc : csem kLoc = .dma locS := by decide
theorem csem_inj {k k' : Fin 17} (e : csem k = csem k') : k = k' := by revert k k'; decide

/-- The cells' invariants under the names `K`, and that round 0 of each is reached. -/
def records (K : Dev nD × Fin 17 → ℕ) : sProp 𝕄 :=
  iprop((bigSep Finset.univ fun ck : Dev nD × Fin 17 => cellInv ER (ringRd m ρ) (K ck) (kcell ck))
    ∗ bigSep Finset.univ fun ck : Dev nD × Fin 17 => reached ER (kcell ck) 0)

instance records_persistent (K : Dev nD × Fin 17 → ℕ) : BI.Persistent (records m ρ K) := by unfold records; infer_instance

variable (K : Dev nD × Fin 17 → ℕ)

omit [FloatOps F] in
theorem rec_inv (c : Dev nD) (k : Fin 17) (sm : SemLoc sig) (e : csem k = sm) :
    (records m ρ K : sProp 𝕄) ⊢ cellInv ER (ringRd m ρ) (K (c, k)) ((c : Thread nD τ), sm) := by
  subst e; unfold records
  exact sep_elim_left.trans (bigSep_elim (Finset.mem_univ (c, k)))
omit [FloatOps F] in
theorem rec_reached (c : Dev nD) (k : Fin 17) (sm : SemLoc sig) (e : csem k = sm) :
    (records m ρ K : sProp 𝕄) ⊢ reached ER ((c : Thread nD τ), sm) 0 := by
  subst e; unfold records
  exact sep_elim_right.trans (bigSep_elim (Finset.mem_univ (c, k)))

end Cert.KernelIdealRun

end
-- ==== Proof.KernelIdealSteps.lean ====
/-
# The body's steps

One rule per kind of step of the kernel, each for a peer number `h : Fin 7` or a slot `s`: the signal to a peer, the
wait for the barrier, the local copy, a transfer, the waits for a landing, for a send and for the local copy, the loads
and stores. A memref, a device or a semaphore that the kernel computes is a variable with an equation to the named one.
-/
module

public import proofs.«01_k».proof.Proof.KernelIdealSchedule

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What device `c` owes, whatever it has waited on. -/
def ow (c : Dev nD) (O : CellTallies nD τ sig Unit) : sProp 𝕄 := iprop(∃ W, owes (c : Thread nD τ) O W)

variable (K : Dev nD × Fin 17 → ℕ) (c : Dev nD)

theorem slot_credit (s : Dev nD) : (cSlot s).view.dmaCredit = N := rfl
theorem xBlk_credit (d : Dev nD) : (xBlk d).view.dmaCredit = N := rfl

omit [FloatOps F] in
/-- A slot written with a block holds it. -/
theorem slotAt_intro (c s : Dev nD) (f : Buf (Elt F) ((c : Thread nD τ).loc cc0_scratch0)) (X : Vec F S512x512 .i8) :
    ((cSlot s).view.loc (c : Thread nD τ) ↦[(cSlot s).view.set]{fullShare} ((cSlot s).view.write (Elt F) f X Finset.univ) : sProp 𝕄) ⊢ slotAt c s X := by
  unfold slotAt slotPts
  iintro H
  iexists ((cSlot s).view.write (Elt F) f X Finset.univ)
  isplitr; · ipureintro; exact View.read_write_univ (Val := Elt F) (v := (cSlot s).view) f X
  iexact H

omit [FloatOps F] in
/-- A cell whose round is over closes at zero. -/
theorem close_cell (k : Fin 17) (sm : SemLoc sig) (e : csem k = sm) :
    iprop(records m ρ K ∗ atPos ER ((c : Thread nD τ), sm) (0 + 1) ∅ 0) ⊢ (|={Set.univ}=> semVal ((c : Thread nD τ), sm) 0 : sProp 𝕄) := by
  iintro ⟨#HR, Hat⟩
  iapply (Rounds.cell_close ER (ringRd m ρ) (Set.mem_univ (K (c, k))) (fun h => h) (R := 0 + 1) (duties_later m ρ ((c : Thread nD τ), sm)))
  isplitr
  · iapply (rec_inv m ρ K c k sm e); iexact HR
  iexact Hat

/-- Signal peer `h`'s barrier, handing it the slot it will fill. -/
theorem step_signal (h : Fin 7) {n : Dev nD} (hn : n = pe c h) {k' : ℕ} (hk : k' = 1)
    {α : Type} {Q : α → sProp 𝕄} {k : PUnit → Prog (TpuEff nD τ sig (Elt F) Λ₀ .tc) α} :
    iprop(records m ρ K ∗ ow c (OB c h.val) ∗ dutyTok ER (barCell (pe c h)) 0 c ∗ slotAny c (pe c h))
      ⊢ iprop((ow c (OB c (h.val + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold ow
  iintro ⟨#HR, ⟨%W, HO⟩, Ht, Hs⟩ Hk
  iapply (Rounds.wp_signal 𝒱₀ ER (ringRd m ρ) (c : Thread nD τ) none (dst := (pe c h : Thread nD τ)) (κ := K (pe c h, 0)) (r := 0)
      (d := c) (by rw [duties_bar]; exact Finset.mem_erase.mpr ⟨(pe_ne c h).symm, Finset.mem_univ _⟩) (amount_bar m ρ (pe c h) c) ()
      (OB c (h.val + 1)) (OB_peel c h)) $$ [HO Ht Hs]
  · isplitr; · iapply (rec_inv m ρ K (pe c h) 0 _ csem_bar); iexact HR
    isplitl [HO]; · iexact HO
    isplitl [Ht]; · iexact Ht
    isplitl [Hs]; · rw [payload_bar]; iexact Hs
    iapply (rec_reached m ρ K (pe c h) 0 _ csem_bar); iexact HR
  iintro HO
  iapply Hk
  iexists W; iexact HO

/-- Wait for the seven peers: slot `c` of each comes with it. -/
theorem step_wait_bar {k' : ℕ} (hk : k' = 7) {α : Type} {Q : α → sProp 𝕄} {k : PUnit → Prog (TpuEff nD τ sig (Elt F) Λ₀ .tc) α} :
    iprop(records m ρ K ∗ levAts L lv ∗ ow c (OB c 7) ∗ cred (tallyAt (barCell c) () 7) ∗ atPos ER (barCell c) 0 ∅ 0)
      ⊢ iprop(((ow c (OR c 0) ∗ semVal (barCell c) 0
              ∗ slotAny (pe c 0) c ∗ slotAny (pe c 1) c ∗ slotAny (pe c 2) c ∗ slotAny (pe c 3) c ∗ slotAny (pe c 4) c ∗ slotAny (pe c 5) c ∗ slotAny (pe c 6) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold ow
  rw [OB_end]
  iintro ⟨#HR, #Hlev, ⟨%W, HO⟩, Hc, Hat⟩ Hk
  iapply (Rounds.wp_wait_rest_token 𝒱₀ ER (ringRd m ρ) (c : Thread nD τ) none (κ := K (c, 0))
      (wpE_semWait_eq 𝒱₀ (c : Thread nD τ) none Set.univ) (Set.mem_univ _) () (O := OR c 0) (W := W) (R := 0) (m := 0) (T := ∅)
      (by rw [expect_bar])) $$ [Hc HO Hat]
  · isplitr; · iapply (rec_inv m ρ K c 0 _ csem_bar); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (close_cell m ρ K c 0 (.reg barS) csem_bar) $$ [Hat] with Hz
  · isplitr; · iexact HR
    iexact Hat
  iapply Hk
  isplitl [HO]; · iexists _; iexact HO
  isplitl [Hz]; · iexact Hz
  iexact Hp

/-- The local copy: `c`'s own row block into its own slot. -/
theorem step_copy {src dst : Memref sig .tc .vmem S512x512 .i8} (hsrc' : src = xBlk c) (hdst' : dst = cSlot c) {sm : DmaSem sig} (hsm : sm = locS)
    {hsrc : src.view.WordExact} {hdst : dst.view.WordExact} {hsem : DmaTarget.Typed .vmem (.dma sm) (DmaTarget.here (nD := nD) (τ := τ) (sig := sig) (p := (c : Thread nD τ).2) dst)}
    {α : Type} {Q : α → sProp 𝕄} {k : PUnit → Prog (TpuEff nD τ sig (Elt F) Λ₀ .tc) α} :
    iprop(records m ρ K ∗ xPts m ρ c c ∗ slotAny c c ∗ dutyTok ER (locCell c) 0 c)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  subst hsrc' hdst' hsm
  unfold xPts slotAny slotPts
  iintro ⟨#HR, Hx, ⟨%f, Hs⟩, Ht⟩ Hk
  iapply (Rounds.wp_copy_pointsTo 𝒱₀ ER (ringRd m ρ) (c : Thread nD τ) none (src := xBlk c) (dst := cSlot c) (sem := .dma locS) (κ := K (c, kLoc)) (r := 0) (d := c) (fd := f)
      (by rw [duties_loc]; exact Finset.mem_singleton_self _) () N (slot_credit c) (amount_loc m ρ c c)
      (by
        rw [payload_loc]
        exact sep_mono_left (slotAt_intro c c f _))) $$ [Hx Hs Ht]
  · isplitr; · iapply (rec_inv m ρ K c kLoc _ csem_loc); iexact HR
    isplitl [Hx]; · iexact Hx
    isplitl [Hs]; · iexact Hs
    isplitl [Ht]; · iexact Ht
    iapply (rec_reached m ρ K c kLoc _ csem_loc); iexact HR
  iexact Hk

/-- Transfer `h`: row block `pe c h` into slot `c` of device `pe c h`. -/
theorem step_send (h : Fin 7) {n : Dev nD} (hn : n = pe c h) {src : Memref sig .tc .vmem S512x512 .i8}
    {dst : Memref sig (Dev.tc n : Thread nD τ).2.kind .vmem S512x512 .i8} (hsrc' : src = xBlk (pe c h)) (hdst' : dst = cSlot c)
    {sS sR : DmaSem sig} (hsS : sS = sendS h) (hsR : sR = recvS c)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records m ρ K ∗ xPts m ρ c (pe c h) ∗ slotAny (pe c h) c ∗ ow c (OR c h.val)
        ∗ dutyTok ER (sendCell c h) 0 c ∗ dutyTok ER (recvCell (pe c h) c) 0 c)
      ⊢ iprop(((cred (tallyAt (sendCell c h) () N) ∗ ow c (OR c (h.val + 1))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  subst hsrc' hdst' hsS hsR
  unfold xPts slotAny slotPts ow
  iintro ⟨#HR, Hx, ⟨%f, Hs⟩, ⟨%W, HO⟩, HtS, HtR⟩ Hk
  iapply (Rounds.wp_send_pointsTo 𝒱₀ ER (ringRd m ρ) (c : Thread nD τ) none (c' := (pe c h : Thread nD τ)) (src := xBlk (pe c h)) (dst := cSlot c) (sS := .dma (sendS h)) (sem := .dma (recvS c)) (κ₁ := K (c, kSend h)) (κ₂ := K (pe c h, kRecv c))
    (r₁ := 0) (r₂ := 0) (d₁ := c) (d₂ := c) (fd := f)
    (by rw [duties_send]; exact Finset.mem_singleton_self _)
    (by rw [duties_recv m ρ (pe c h) c (pe_ne c h).symm]; exact Finset.mem_singleton_self _)
    () () N (slot_credit c) (amount_send m ρ c h c) (amount_recv m ρ (pe c h) c c) (OR c (h.val + 1)) (OR_peel c h) (W := W)
    (by rw [payload_send]; unfold xPts; exact BI.Entails.refl _)
    (by
      rw [payload_recv]
      exact slotAt_intro (pe c h) c f _)) $$ [Hx Hs HO HtS HtR]
  · isplitr; · iapply (rec_inv m ρ K c (kSend h) _ (csem_send h)); iexact HR
    isplitr; · iapply (rec_inv m ρ K (pe c h) (kRecv c) _ (csem_recv c)); iexact HR
    isplitl [Hx]; · iexact Hx
    isplitl [Hs]; · iexact Hs
    isplitl [HO]; · iexact HO
    isplitl [HtS]; · iexact HtS
    isplitr; · iapply (rec_reached m ρ K c (kSend h) _ (csem_send h)); iexact HR
    isplitl [HtR]; · iexact HtR
    iapply (rec_reached m ρ K (pe c h) (kRecv c) _ (csem_recv c)); iexact HR
  iintro ⟨Hc, HO⟩
  iapply Hk
  isplitl [Hc]; · iexact Hc
  iexists W; iexact HO

/-- A wait for a copy's credit on one of `c`'s own cells, owing nothing: the cell closes and its payload comes. -/
theorem step_wait (kc : Fin 17) {sm : DmaSem sig} (e : csem kc = .dma sm) {P : sProp 𝕄}
    (hexp : (ringRd (F := F) m ρ).expect ((c : Thread nD τ), .dma sm) 0 = N)
    (hrest : bigSep ((ringRd (F := F) m ρ).duties ((c : Thread nD τ), .dma sm) 0 \ ∅) (fun d => (ringRd (F := F) m ρ).payload ((c : Thread nD τ), .dma sm) 0 d) = P)
    {src dst : Memref sig .tc .vmem S512x512 .i8} (hN : dst.view.dmaCredit = N)
    {hsrc : src.view.WordExact} {hdst : dst.view.WordExact}
    {α : Type} {Q : α → sProp 𝕄} {k : PUnit → Prog (TpuEff nD τ sig (Elt F) Λ₀ .tc) α} :
    iprop(records m ρ K ∗ cred (tallyAt ((c : Thread nD τ), .dma sm) () N) ∗ ow c 0 ∗ atPos ER ((c : Thread nD τ), .dma sm) 0 ∅ 0)
      ⊢ iprop(((ow c 0 ∗ semVal ((c : Thread nD τ), .dma sm) 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold ow
  rw [← hN]
  iintro ⟨#HR, Hc, ⟨%W, HO⟩, Hat⟩ Hk
  iapply (Rounds.wp_wait_rest_token 𝒱₀ ER (ringRd m ρ) (c : Thread nD τ) none (κ := K (c, kc))
      (wpE_waitDma2_eq 𝒱₀ (c : Thread nD τ) none Set.univ) (Set.mem_univ _) () (O := 0) (W := W) (R := 0) (m := 0) (T := ∅)
      (by rw [Nat.zero_add, hexp, hN])) $$ [Hc HO Hat]
  · isplitr; · iapply (rec_inv m ρ K c kc _ e); iexact HR
    isplitl [Hc]; · iexact Hc
    isplitl [HO]; · iexact HO
    isplitr; · rw [MayWait_zero]; iempintro
    iexact Hat
  iintro ⟨HO, Hat, -, Hpay⟩
  ihave Hp := (Entails.of_eq hrest) $$ Hpay
  imod (close_cell m ρ K c kc (.dma sm) e) $$ [Hat] with Hz
  · isplitr; · iexact HR
    iexact Hat
  iapply Hk
  isplitl [HO]; · iexists _; iexact HO
  isplitl [Hz]; · iexact Hz
  iexact Hp

/-- Wait for the local copy: slot `c` filled with `c`'s own row block, and the source rows back. -/
theorem step_wait_loc {src dst : Memref sig .tc .vmem S512x512 .i8} (hdst' : dst = cSlot c) {sm : DmaSem sig} (hsm : sm = locS)
    {hsrc : src.view.WordExact} {hdst : dst.view.WordExact} {α : Type} {Q : α → sProp 𝕄} {k : PUnit → Prog (TpuEff nD τ sig (Elt F) Λ₀ .tc) α} :
    iprop(records m ρ K ∗ cred (tallyAt (locCell c) () N) ∗ ow c 0 ∗ atPos ER (locCell c) 0 ∅ 0)
      ⊢ iprop(((ow c 0 ∗ semVal (locCell c) 0 ∗ slotAt c c (xPart m ρ c c) ∗ xPts m ρ c c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  exact step_wait m ρ K c kLoc csem_loc (expect_loc m ρ c) (rest_loc m ρ c) (by subst hdst'; exact slot_credit c)

/-- Wait for slot `s`'s landing, `s = pe c h`: the slot filled with row block `c` of device `s`'s `x`. -/
theorem step_wait_recv (h : Fin 7) {src dst : Memref sig .tc .vmem S512x512 .i8} (hdst' : dst = cSlot (pe c h)) {sm : DmaSem sig} (hsm : sm = recvS (pe c h))
    {hsrc : src.view.WordExact} {hdst : dst.view.WordExact} {α : Type} {Q : α → sProp 𝕄} {k : PUnit → Prog (TpuEff nD τ sig (Elt F) Λ₀ .tc) α} :
    iprop(records m ρ K ∗ cred (tallyAt (recvCell c (pe c h)) () N) ∗ ow c 0 ∗ atPos ER (recvCell c (pe c h)) 0 ∅ 0)
      ⊢ iprop(((ow c 0 ∗ semVal (recvCell c (pe c h)) 0 ∗ slotAt c (pe c h) (xPart m ρ (pe c h) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  exact step_wait m ρ K c (kRecv (pe c h)) (csem_recv _) (expect_recv m ρ c _ (pe_ne c h)) (rest_recv m ρ c _ (pe_ne c h)) (by subst hdst'; exact slot_credit _)

/-- Wait for transfer `h` to leave: the source rows come back. -/
theorem step_wait_send (h : Fin 7) {src dst : Memref sig .tc .vmem S512x512 .i8} (hdst' : dst = xBlk (pe c h)) {sm : DmaSem sig} (hsm : sm = sendS h)
    {hsrc : src.view.WordExact} {hdst : dst.view.WordExact} {α : Type} {Q : α → sProp 𝕄} {k : PUnit → Prog (TpuEff nD τ sig (Elt F) Λ₀ .tc) α} :
    iprop(records m ρ K ∗ cred (tallyAt (sendCell c h) () N) ∗ ow c 0 ∗ atPos ER (sendCell c h) 0 ∅ 0)
      ⊢ iprop(((ow c 0 ∗ semVal (sendCell c h) 0 ∗ xPts m ρ c (pe c h))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  exact step_wait m ρ K c (kSend h) (csem_send h) (expect_send m ρ c h) (rest_send m ρ c h) (by subst hdst'; exact xBlk_credit _)

/-- Load a filled slot. -/
theorem step_load_slot (s : Dev nD) {X : Vec F S512x512 .i8} {off : Fin 2 → ℕ} (e : off = ![0, 512 * s.val]) {hi}
    {hl : rM.view.LoadsAt (Rect.unit (s := S512x4096) off S512x512.size hi).toLoadRect}
    {α : Type} {Q : α → sProp 𝕄} {k : Vec F S512x512 .i8 → Prog (TpuEff nD τ sig (Elt F) Λ₀ .tc) α} :
    slotAt c s X
      ⊢ iprop((slotAt c s X -∗ wp frame (wpE (defs₀ (F := F)) 𝒱₀ (c : Thread nD τ) none) Set.univ (k X) Q)
          -∗ wp frame (wpE (defs₀ (F := F)) 𝒱₀ (c : Thread nD τ) none) Set.univ
            (.op (.load rM (Rect.unit (s := S512x4096) off S512x512.size hi).toLoadRect hl) k) Q) := by
  subst e
  unfold slotAt slotPts
  iintro ⟨%f, %hf, H⟩ Hk
  iapply (wp_load_rect 𝒱₀ (c : Thread nD τ) none Set.univ (m := rM) (r := rRect s) (f := f) (S := (cSlot s).view.set) subset_rfl) $$ H
  iintro H
  rw [show (rM.access (rRect s)).read (Elt F) f = X from hf]
  iapply Hk
  iexists f
  isplitr; · ipureintro; exact hf
  iexact H

/-- Load row block `s` of `w`. -/
theorem step_load_w (s : Dev nD) {off : Fin 2 → ℕ} (e : off = ![512 * s.val, 0]) {hi}
    {hl : wM.view.LoadsAt (Rect.unit (s := S4096x2048) off S512x2048.size hi).toLoadRect}
    {α : Type} {Q : α → sProp 𝕄} {k : Vec F S512x2048 .i8 → Prog (TpuEff nD τ sig (Elt F) Λ₀ .tc) α} :
    (((c : Thread nD τ).loc cc0_stg1_0) ↦{fullShare} wstg m ρ c : sProp 𝕄)
      ⊢ iprop((((((c : Thread nD τ).loc cc0_stg1_0) ↦{fullShare} wstg m ρ c) : sProp 𝕄) -∗ wp frame (wpE (defs₀ (F := F)) 𝒱₀ (c : Thread nD τ) none) Set.univ (k (wPart m ρ s c)) Q)
          -∗ wp frame (wpE (defs₀ (F := F)) 𝒱₀ (c : Thread nD τ) none) Set.univ
            (.op (.load wM (Rect.unit (s := S4096x2048) off S512x2048.size hi).toLoadRect hl) k) Q) := by
  subst e
  exact wp_load_rect 𝒱₀ (c : Thread nD τ) none Set.univ (m := wM) (r := wRect s) (f := wstg m ρ c) (Finset.subset_univ _)

end Cert.KernelIdealRun

end
-- ==== Proof.KernelIdealBody.lean ====
/-
# The body, run from a device's share of the ghost state to its result

`sound_body` walks the kernel step by step: seven signals, the barrier wait, the local copy, seven transfers, the local
wait and the first product (kept in the accumulator scratch), then per peer — farthest first — a landing and its
product, the seven send waits, the two scales and the store of the result.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The int32 accumulator at the end: the device's own block first, then the peers' from the farthest. -/
def accAt (c : Dev nD) : IVec S512x2048 32 :=
  k0_pay6
    (k0_pay5
      (k0_pay4
        (k0_pay3 (k0_pay2 (xPart m ρ c c) (wPart m ρ c c))
          (xPart m ρ (pe c 6) c) (wPart m ρ (pe c 6) c) (xPart m ρ (pe c 5) c) (wPart m ρ (pe c 5) c))
        (xPart m ρ (pe c 4) c) (wPart m ρ (pe c 4) c) (xPart m ρ (pe c 3) c) (wPart m ρ (pe c 3) c))
      (xPart m ρ (pe c 2) c) (wPart m ρ (pe c 2) c) (xPart m ρ (pe c 1) c) (wPart m ρ (pe c 1) c))
    (xPart m ρ (pe c 0) c) (wPart m ρ (pe c 0) c)

/-- The kernel's result on device `c`. -/
def outAt (c : Dev nD) : (cc0_stg4_0 : Ref sig .tc).ty.Contents (Elt F) :=
  k0_pay1 (k0_pay7 (accAt m ρ c) (sxVal m ρ c) (swVal m ρ c)) (k0_pay8 (accAt m ρ c) (sxVal m ρ c) (swVal m ρ c)) k0_pay9

/-! ## What a device starts from and ends with -/

/-- The tokens of the duties device `c` pays. -/
def payToks (c : Dev nD) : sProp 𝕄 :=
  iprop((bigSep Finset.univ fun h : Fin 7 => dutyTok ER (barCell (pe c h)) 0 c)
    ∗ (bigSep Finset.univ fun h : Fin 7 => dutyTok ER (recvCell (pe c h) c) 0 c)
    ∗ (bigSep Finset.univ fun h : Fin 7 => dutyTok ER (sendCell c h) 0 c)
    ∗ dutyTok ER (locCell c) 0 c)
def ghost (K : Dev nD × Fin 17 → ℕ) (c : Dev nD) : sProp 𝕄 :=
  iprop(records m ρ K ∗ (bigSep Finset.univ fun k : Fin 17 => atPos ER (kcell (c, k)) 0 ∅ 0) ∗ payToks c)

/-- Its credit: the seven signals it waits for and the seven landings. -/
def credits (c : Dev nD) : sProp 𝕄 :=
  iprop(cred (tallyAt (barCell c) () 7) ∗ bigSep Finset.univ fun h : Fin 7 => cred (tallyAt (recvCell c (pe c h)) () N))

def start (c : Dev nD) : sProp 𝕄 := iprop((∃ K, ghost m ρ K c) ∗ credits c ∗ levAts L lv)

/-- The two scratch buffers at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch4), ((c : Thread nD τ).loc cc0_scratch4) ↦{fullShare} f))

def Φ₀ (c : Dev nD) : sProp 𝕄 := iprop(start m ρ c ∗ scr c)
/-- After the body: the scratch buffers, and every one of its cells closed at zero. -/
def Φ₁ (c : Dev nD) : sProp 𝕄 := iprop(scr c ∗ bigSep Finset.univ fun k : Fin 17 => semVal (kcell (c, k)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem fetch_in (w : Fin 5) (hw : w ≠ 4) (t : Fin cfg0.N) : (cfg0.win w).fetch t = true := by rw [fin_N t]; revert w; decide

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Lists -/

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The cells as the body meets them: the barrier, the local copy's, the own receive slot's (never used), then per
    peer the send's and the landing's. -/
def cellsOf (c : Dev nD) : List (Fin 17) := [0, kLoc, kRecv c, kSend 0, kSend 1, kSend 2, kSend 3, kSend 4, kSend 5, kSend 6,
  kRecv (pe c 0), kRecv (pe c 1), kRecv (pe c 2), kRecv (pe c 3), kRecv (pe c 4), kRecv (pe c 5), kRecv (pe c 6)]
theorem cellsOf_univ (c : Dev nD) : (Finset.univ : Finset (Fin 17)) = (cellsOf c).toFinset := by revert c; decide
theorem cellsOf_nodup (c : Dev nD) : (cellsOf c).Nodup := by revert c; decide

omit [FloatOps F] in
theorem cells (c : Dev nD) (Φ : SemLoc sig → sProp 𝕄) : (bigSep Finset.univ fun k : Fin 17 => Φ (csem k))
    = iprop(Φ (.reg barS) ∗ Φ (.dma locS) ∗ Φ (.dma (recvS c))
      ∗ Φ (.dma (sendS 0)) ∗ Φ (.dma (sendS 1)) ∗ Φ (.dma (sendS 2)) ∗ Φ (.dma (sendS 3)) ∗ Φ (.dma (sendS 4)) ∗ Φ (.dma (sendS 5)) ∗ Φ (.dma (sendS 6))
      ∗ Φ (.dma (recvS (pe c 0))) ∗ Φ (.dma (recvS (pe c 1))) ∗ Φ (.dma (recvS (pe c 2))) ∗ Φ (.dma (recvS (pe c 3))) ∗ Φ (.dma (recvS (pe c 4)))
      ∗ Φ (.dma (recvS (pe c 5))) ∗ Φ (.dma (recvS (pe c 6)))) := by
  rw [bigSep_univ_eq_bigSepL (cellsOf c) (cellsOf_univ c) (cellsOf_nodup c)]
  simp only [cellsOf, bigSepL_cons_cons, bigSepL_singleton, csem_bar, csem_loc, csem_send, csem_recv]
  rfl

/-! ## The body -/

/-- A device's own landing cell has no duty at any round. -/
theorem close_own (K : Dev nD × Fin 17 → ℕ) (c : Dev nD) :
    iprop(records m ρ K ∗ atPos ER (recvCell c c) 0 ∅ 0) ⊢ (|={Set.univ}=> semVal (recvCell c c) 0 : sProp 𝕄) := by
  iintro ⟨#HR, Hat⟩
  iapply (Rounds.cell_close ER (ringRd m ρ) (Set.mem_univ (K (c, kRecv c))) (fun h => h) (R := 0) fun r _ => by
    rcases Nat.eq_zero_or_pos r with rfl | h
    · exact duties_recv_self m ρ c
    · exact duties_later m ρ _ r h)
  isplitr
  · iapply (rec_inv m ρ K c (kRecv c) (.dma (recvS c)) (csem_recv c)); iexact HR
  iexact Hat

/-- The parts of the input array make the array. -/
theorem x_join (c : Dev nD) :
    iprop(xPts m ρ c c ∗ xPts m ρ c (pe c 0) ∗ xPts m ρ c (pe c 1) ∗ xPts m ρ c (pe c 2) ∗ xPts m ρ c (pe c 3)
      ∗ xPts m ρ c (pe c 4) ∗ xPts m ρ c (pe c 5) ∗ xPts m ρ c (pe c 6))
      ⊢ (((c : Thread nD τ).loc cc0_stg0_0) ↦{fullShare} xstg m ρ c : sProp 𝕄) :=
  (Entails.of_eq (around c fun d => xPts m ρ c d).symm).trans (Entails.of_eq (xPts_all m ρ c).symm)
/-- The slots make the receive buffer. -/
theorem s_join (c : Dev nD) {X : Dev nD → Vec F S512x512 .i8} :
    iprop(slotAt c c (X c) ∗ slotAt c (pe c 0) (X (pe c 0)) ∗ slotAt c (pe c 1) (X (pe c 1)) ∗ slotAt c (pe c 2) (X (pe c 2)) ∗ slotAt c (pe c 3) (X (pe c 3))
      ∗ slotAt c (pe c 4) (X (pe c 4)) ∗ slotAt c (pe c 5) (X (pe c 5)) ∗ slotAt c (pe c 6) (X (pe c 6)))
      ⊢ (iprop(∃ f : Buf (Elt F) ((c : Thread nD τ).loc cc0_scratch0), ((c : Thread nD τ).loc cc0_scratch0) ↦{fullShare} f) : sProp 𝕄) :=
  (Entails.of_eq (around c fun d => slotAt c d (X d)).symm).trans ((bigSep_mono fun d _ => slotAt_any c d (X d)).trans (slots_join c))

section Body

variable (K : Dev nD × Fin 17 → ℕ)

abbrev r0 : Rect S512x2048 := Rect.unit (s := S512x2048) ![0, 0] S512x2048.size inb_S512x2048_S512x2048_0_0

theorem hz : (![0, 0] : Fin 2 → Nat) = fun _ => 0 := funext fun a => by fin_cases a <;> rfl
omit [FloatOps F] in
theorem read_acc (f : (cc0_scratch4 : Ref sig .tc).ty.Contents (Elt F)) : (aM : Memref sig .tc .vmem S512x2048 .i32).view.readAt (Elt F) r0.toLoadRect f = f :=
  Memref.readAt_unit_zero (Elt F) cc0_scratch4 hz _ f
omit [FloatOps F] in
theorem write_acc (f w : (cc0_scratch4 : Ref sig .tc).ty.Contents (Elt F)) :
    ((aM : Memref sig .tc .vmem S512x2048 .i32).access r0 : View sig .tc _ _ _).write (Elt F) f w Finset.univ = w :=
  Memref.write_access_unit_zero_univ (Elt F) cc0_scratch4 hz _ f w
omit [FloatOps F] in
theorem write_out (f w : (cc0_stg4_0 : Ref sig .tc).ty.Contents (Elt F)) :
    ((oM : Memref sig .tc .vmem S512x2048 .f32).access r0 : View sig .tc _ _ _).write (Elt F) f w Finset.univ = w :=
  Memref.write_access_unit_zero_univ (Elt F) cc0_stg4_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ scr c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

set_option maxHeartbeats 4000000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            cc0_scratch1 cc0_scratch2 cc0_scratch3 (Memref.whole cc0_scratch4) (Memref.isWhole_whole _)) Kt := by
  unfold bodyPre ghost payToks credits scr
  rw [cells c (fun sm => atPos ER ((c : Thread nD τ), sm) 0 ∅ 0), seven, seven, seven, seven]
  iintro ⟨⟨⟨⟨#HR, ⟨HaB, HaL, HaV, HaS0, HaS1, HaS2, HaS3, HaS4, HaS5, HaS6, HaV0, HaV1, HaV2, HaV3, HaV4, HaV5, HaV6⟩,
        ⟨HtB0, HtB1, HtB2, HtB3, HtB4, HtB5, HtB6⟩, ⟨HtV0, HtV1, HtV2, HtV3, HtV4, HtV5, HtV6⟩, ⟨HtS0, HtS1, HtS2, HtS3, HtS4, HtS5, HtS6⟩, HtL⟩,
      ⟨HcB, HcV0, HcV1, HcV2, HcV3, HcV4, HcV5, HcV6⟩, #Hlev, Hcomm, ⟨%fa, Hacc⟩⟩,
    Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩, Hk⟩
  have hx : g0 = xstg m ρ c := by rw [hg0]; unfold Dat.before; rw [if_pos (fetch_in 0 (by decide) t₀)]; rfl
  have hw : g1 = wstg m ρ c := by rw [hg1]; unfold Dat.before; rw [if_pos (fetch_in 1 (by decide) t₀)]; rfl
  have hsx : g2 = sxstg m ρ c := by rw [hg2]; unfold Dat.before; rw [if_pos (fetch_in 2 (by decide) t₀)]; rfl
  have hsw : g3 = swstg m ρ c := by rw [hg3]; unfold Dat.before; rw [if_pos (fetch_in 3 (by decide) t₀)]; rfl
  subst hx hw hsx hsw
  unfold Dat.owesAt Pipeline.owesWithin
  rw [show (dats m ρ 0 c).owed t₀.castSucc = OB c 0 from rfl]
  icases Ho with ⟨%W, %hW, HO⟩
  simp only [cc0_body_eq_skeleton]
  unfold cc0_body_skel
  simp only [k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, smemLoad, smemLoadElt, wp_deviceId]
  -- the two arrays in parts
  ihave Hx := (Entails.of_eq (xPts_all m ρ c)) $$ Hx
  ihave Hx := (Entails.of_eq (around c _)) $$ Hx
  icases Hx with ⟨HxL, Hx0, Hx1, Hx2, Hx3, Hx4, Hx5, Hx6⟩
  ihave Hs := (slots_split c) $$ Hcomm
  ihave Hs := (Entails.of_eq (around c _)) $$ Hs
  icases Hs with ⟨HsL, Hs0, Hs1, Hs2, Hs3, Hs4, Hs5, Hs6⟩
  ihave Ho := (show (owes (c : Thread nD τ) (OB c 0) W : sProp 𝕄) ⊢ ow c (OB c 0) from exists_intro W) $$ HO
  -- the barrier
  iapply (step_signal m ρ K c 0 (dev1_eq c) rfl) $$ [HR Ho HtB0 Hs0]
  · iframe HR Ho HtB0 Hs0
  iintro Ho
  iapply (step_signal m ρ K c 1 (dev2_eq c) rfl) $$ [HR Ho HtB1 Hs1]
  · iframe HR Ho HtB1 Hs1
  iintro Ho
  iapply (step_signal m ρ K c 2 (dev3_eq c) rfl) $$ [HR Ho HtB2 Hs2]
  · iframe HR Ho HtB2 Hs2
  iintro Ho
  iapply (step_signal m ρ K c 3 (dev4_eq c) rfl) $$ [HR Ho HtB3 Hs3]
  · iframe HR Ho HtB3 Hs3
  iintro Ho
  iapply (step_signal m ρ K c 4 (dev5_eq c) rfl) $$ [HR Ho HtB4 Hs4]
  · iframe HR Ho HtB4 Hs4
  iintro Ho
  iapply (step_signal m ρ K c 5 (dev6_eq c) rfl) $$ [HR Ho HtB5 Hs5]
  · iframe HR Ho HtB5 Hs5
  iintro Ho
  iapply (step_signal m ρ K c 6 (dev7_eq c) rfl) $$ [HR Ho HtB6 Hs6]
  · iframe HR Ho HtB6 Hs6
  iintro Ho
  iapply (step_wait_bar m ρ K c rfl) $$ [HR Hlev Ho HcB HaB]
  · iframe HR Hlev Ho HcB HaB
  iintro ⟨Ho, HvB, Hs0, Hs1, Hs2, Hs3, Hs4, Hs5, Hs6⟩
  -- the local copy and the seven transfers
  iapply (step_copy m ρ K c (xSlice_eq c (k0_off2_eq c) _) (rSlice_eq c (k0_off1_eq c) _) (locS_eq)) $$ [HR HxL HsL HtL]
  · iframe HR HxL HsL HtL
  iintro HcL
  iapply (step_send m ρ K c 0 (dev8_eq c) (xSlice_eq (pe c 0) (show k0_off4 c 1#32 = ![512 * (pe c 0).val, 0] from k0_off4_eq c 0) _) (rSlice_eq c (k0_off1_eq c) _) (sendS_eq 0 _) (recvSem_eq c (k0_off3_eq c) _)) $$ [HR Hx0 Hs0 Ho HtS0 HtV0]
  · iframe HR Hx0 Hs0 Ho HtS0 HtV0
  iintro ⟨HcS0, Ho⟩
  iapply (step_send m ρ K c 1 (dev9_eq c) (xSlice_eq (pe c 1) (show k0_off4 c 2#32 = ![512 * (pe c 1).val, 0] from k0_off4_eq c 1) _) (rSlice_eq c (k0_off1_eq c) _) (sendS_eq 1 _) (recvSem_eq c (k0_off3_eq c) _)) $$ [HR Hx1 Hs1 Ho HtS1 HtV1]
  · iframe HR Hx1 Hs1 Ho HtS1 HtV1
  iintro ⟨HcS1, Ho⟩
  iapply (step_send m ρ K c 2 (dev10_eq c) (xSlice_eq (pe c 2) (show k0_off4 c 3#32 = ![512 * (pe c 2).val, 0] from k0_off4_eq c 2) _) (rSlice_eq c (k0_off1_eq c) _) (sendS_eq 2 _) (recvSem_eq c (k0_off3_eq c) _)) $$ [HR Hx2 Hs2 Ho HtS2 HtV2]
  · iframe HR Hx2 Hs2 Ho HtS2 HtV2
  iintro ⟨HcS2, Ho⟩
  iapply (step_send m ρ K c 3 (dev11_eq c) (xSlice_eq (pe c 3) (show k0_off4 c 4#32 = ![512 * (pe c 3).val, 0] from k0_off4_eq c 3) _) (rSlice_eq c (k0_off1_eq c) _) (sendS_eq 3 _) (recvSem_eq c (k0_off3_eq c) _)) $$ [HR Hx3 Hs3 Ho HtS3 HtV3]
  · iframe HR Hx3 Hs3 Ho HtS3 HtV3
  iintro ⟨HcS3, Ho⟩
  iapply (step_send m ρ K c 4 (dev12_eq c) (xSlice_eq (pe c 4) (show k0_off4 c 5#32 = ![512 * (pe c 4).val, 0] from k0_off4_eq c 4) _) (rSlice_eq c (k0_off1_eq c) _) (sendS_eq 4 _) (recvSem_eq c (k0_off3_eq c) _)) $$ [HR Hx4 Hs4 Ho HtS4 HtV4]
  · iframe HR Hx4 Hs4 Ho HtS4 HtV4
  iintro ⟨HcS4, Ho⟩
  iapply (step_send m ρ K c 5 (dev13_eq c) (xSlice_eq (pe c 5) (show k0_off4 c 6#32 = ![512 * (pe c 5).val, 0] from k0_off4_eq c 5) _) (rSlice_eq c (k0_off1_eq c) _) (sendS_eq 5 _) (recvSem_eq c (k0_off3_eq c) _)) $$ [HR Hx5 Hs5 Ho HtS5 HtV5]
  · iframe HR Hx5 Hs5 Ho HtS5 HtV5
  iintro ⟨HcS5, Ho⟩
  iapply (step_send m ρ K c 6 (dev14_eq c) (xSlice_eq (pe c 6) (show k0_off4 c 7#32 = ![512 * (pe c 6).val, 0] from k0_off4_eq c 6) _) (rSlice_eq c (k0_off1_eq c) _) (sendS_eq 6 _) (recvSem_eq c (k0_off3_eq c) _)) $$ [HR Hx6 Hs6 Ho HtS6 HtV6]
  · iframe HR Hx6 Hs6 Ho HtS6 HtV6
  iintro ⟨HcS6, Ho⟩
  ihave Ho := (Entails.of_eq (show (ow c (OR c ((6 : Fin 7).val + 1)) : sProp 𝕄) = ow c 0 from congrArg (ow c) (OR_end c))) $$ Ho
  -- the own block
  iapply (step_wait_loc m ρ K c (rSlice_eq c (k0_off1_eq c) _) (locS_eq)) $$ [HR HcL Ho HaL]
  · iframe HR HcL Ho HaL
  iintro ⟨Ho, HvL, HsL, HxL⟩
  iapply (step_load_slot c c (k0_off5_eq c)) $$ HsL
  iintro HsL
  iapply (step_load_w m ρ c c (k0_off6_eq c)) $$ Hw
  iintro Hw
  iapply (wp_load 𝒱₀ (c : Thread nD τ) none Set.univ (m := aM) (Finset.subset_univ _)) $$ Hacc
  iintro Hacc
  iapply (wp_store 𝒱₀ (c : Thread nD τ) none Set.univ (m := aM) (r := r0) (Finset.subset_univ _)) $$ Hacc
  iintro Hacc
  rw [write_acc]
  iapply (wp_load 𝒱₀ (c : Thread nD τ) none Set.univ (m := aM) (Finset.subset_univ _)) $$ Hacc
  iintro Hacc
  rw [read_acc]
  -- the peers' blocks, farthest first
  iapply (step_wait_recv m ρ K c 6 (rSlice_eq (pe c 6) (show k0_off8 c 7#32 = ![0, 512 * (pe c 6).val] from k0_off8_eq c 6) _) (recvSem_eq (pe c 6) (show k0_off7 c 7#32 = ![(pe c 6).val] from k0_off7_eq c 6) _)) $$ [HR HcV6 Ho HaV6]
  · iframe HR HcV6 Ho HaV6
  iintro ⟨Ho, HvV6, Hs6⟩
  iapply (step_load_slot c (pe c 6) (show k0_off9 c 7#32 = ![0, 512 * (pe c 6).val] from k0_off9_eq c 6)) $$ Hs6
  iintro Hs6
  iapply (step_load_w m ρ c (pe c 6) (show k0_off10 c 7#32 = ![512 * (pe c 6).val, 0] from k0_off10_eq c 6)) $$ Hw
  iintro Hw
  iapply (step_wait_recv m ρ K c 5 (rSlice_eq (pe c 5) (show k0_off8 c 6#32 = ![0, 512 * (pe c 5).val] from k0_off8_eq c 5) _) (recvSem_eq (pe c 5) (show k0_off7 c 6#32 = ![(pe c 5).val] from k0_off7_eq c 5) _)) $$ [HR HcV5 Ho HaV5]
  · iframe HR HcV5 Ho HaV5
  iintro ⟨Ho, HvV5, Hs5⟩
  iapply (step_load_slot c (pe c 5) (show k0_off9 c 6#32 = ![0, 512 * (pe c 5).val] from k0_off9_eq c 5)) $$ Hs5
  iintro Hs5
  iapply (step_load_w m ρ c (pe c 5) (show k0_off10 c 6#32 = ![512 * (pe c 5).val, 0] from k0_off10_eq c 5)) $$ Hw
  iintro Hw
  iapply (step_wait_recv m ρ K c 4 (rSlice_eq (pe c 4) (show k0_off8 c 5#32 = ![0, 512 * (pe c 4).val] from k0_off8_eq c 4) _) (recvSem_eq (pe c 4) (show k0_off7 c 5#32 = ![(pe c 4).val] from k0_off7_eq c 4) _)) $$ [HR HcV4 Ho HaV4]
  · iframe HR HcV4 Ho HaV4
  iintro ⟨Ho, HvV4, Hs4⟩
  iapply (step_load_slot c (pe c 4) (show k0_off9 c 5#32 = ![0, 512 * (pe c 4).val] from k0_off9_eq c 4)) $$ Hs4
  iintro Hs4
  iapply (step_load_w m ρ c (pe c 4) (show k0_off10 c 5#32 = ![512 * (pe c 4).val, 0] from k0_off10_eq c 4)) $$ Hw
  iintro Hw
  iapply (step_wait_recv m ρ K c 3 (rSlice_eq (pe c 3) (show k0_off8 c 4#32 = ![0, 512 * (pe c 3).val] from k0_off8_eq c 3) _) (recvSem_eq (pe c 3) (show k0_off7 c 4#32 = ![(pe c 3).val] from k0_off7_eq c 3) _)) $$ [HR HcV3 Ho HaV3]
  · iframe HR HcV3 Ho HaV3
  iintro ⟨Ho, HvV3, Hs3⟩
  iapply (step_load_slot c (pe c 3) (show k0_off9 c 4#32 = ![0, 512 * (pe c 3).val] from k0_off9_eq c 3)) $$ Hs3
  iintro Hs3
  iapply (step_load_w m ρ c (pe c 3) (show k0_off10 c 4#32 = ![512 * (pe c 3).val, 0] from k0_off10_eq c 3)) $$ Hw
  iintro Hw
  iapply (step_wait_recv m ρ K c 2 (rSlice_eq (pe c 2) (show k0_off8 c 3#32 = ![0, 512 * (pe c 2).val] from k0_off8_eq c 2) _) (recvSem_eq (pe c 2) (show k0_off7 c 3#32 = ![(pe c 2).val] from k0_off7_eq c 2) _)) $$ [HR HcV2 Ho HaV2]
  · iframe HR HcV2 Ho HaV2
  iintro ⟨Ho, HvV2, Hs2⟩
  iapply (step_load_slot c (pe c 2) (show k0_off9 c 3#32 = ![0, 512 * (pe c 2).val] from k0_off9_eq c 2)) $$ Hs2
  iintro Hs2
  iapply (step_load_w m ρ c (pe c 2) (show k0_off10 c 3#32 = ![512 * (pe c 2).val, 0] from k0_off10_eq c 2)) $$ Hw
  iintro Hw
  iapply (step_wait_recv m ρ K c 1 (rSlice_eq (pe c 1) (show k0_off8 c 2#32 = ![0, 512 * (pe c 1).val] from k0_off8_eq c 1) _) (recvSem_eq (pe c 1) (show k0_off7 c 2#32 = ![(pe c 1).val] from k0_off7_eq c 1) _)) $$ [HR HcV1 Ho HaV1]
  · iframe HR HcV1 Ho HaV1
  iintro ⟨Ho, HvV1, Hs1⟩
  iapply (step_load_slot c (pe c 1) (show k0_off9 c 2#32 = ![0, 512 * (pe c 1).val] from k0_off9_eq c 1)) $$ Hs1
  iintro Hs1
  iapply (step_load_w m ρ c (pe c 1) (show k0_off10 c 2#32 = ![512 * (pe c 1).val, 0] from k0_off10_eq c 1)) $$ Hw
  iintro Hw
  iapply (step_wait_recv m ρ K c 0 (rSlice_eq (pe c 0) (show k0_off8 c 1#32 = ![0, 512 * (pe c 0).val] from k0_off8_eq c 0) _) (recvSem_eq (pe c 0) (show k0_off7 c 1#32 = ![(pe c 0).val] from k0_off7_eq c 0) _)) $$ [HR HcV0 Ho HaV0]
  · iframe HR HcV0 Ho HaV0
  iintro ⟨Ho, HvV0, Hs0⟩
  iapply (step_load_slot c (pe c 0) (show k0_off9 c 1#32 = ![0, 512 * (pe c 0).val] from k0_off9_eq c 0)) $$ Hs0
  iintro Hs0
  iapply (step_load_w m ρ c (pe c 0) (show k0_off10 c 1#32 = ![512 * (pe c 0).val, 0] from k0_off10_eq c 0)) $$ Hw
  iintro Hw
  -- the sends are over
  iapply (step_wait_send m ρ K c 0 (xSlice_eq (pe c 0) (show k0_off4 c 1#32 = ![512 * (pe c 0).val, 0] from k0_off4_eq c 0) _) (sendS_eq 0 _)) $$ [HR HcS0 Ho HaS0]
  · iframe HR HcS0 Ho HaS0
  iintro ⟨Ho, HvS0, Hx0⟩
  iapply (step_wait_send m ρ K c 1 (xSlice_eq (pe c 1) (show k0_off4 c 2#32 = ![512 * (pe c 1).val, 0] from k0_off4_eq c 1) _) (sendS_eq 1 _)) $$ [HR HcS1 Ho HaS1]
  · iframe HR HcS1 Ho HaS1
  iintro ⟨Ho, HvS1, Hx1⟩
  iapply (step_wait_send m ρ K c 2 (xSlice_eq (pe c 2) (show k0_off4 c 3#32 = ![512 * (pe c 2).val, 0] from k0_off4_eq c 2) _) (sendS_eq 2 _)) $$ [HR HcS2 Ho HaS2]
  · iframe HR HcS2 Ho HaS2
  iintro ⟨Ho, HvS2, Hx2⟩
  iapply (step_wait_send m ρ K c 3 (xSlice_eq (pe c 3) (show k0_off4 c 4#32 = ![512 * (pe c 3).val, 0] from k0_off4_eq c 3) _) (sendS_eq 3 _)) $$ [HR HcS3 Ho HaS3]
  · iframe HR HcS3 Ho HaS3
  iintro ⟨Ho, HvS3, Hx3⟩
  iapply (step_wait_send m ρ K c 4 (xSlice_eq (pe c 4) (show k0_off4 c 5#32 = ![512 * (pe c 4).val, 0] from k0_off4_eq c 4) _) (sendS_eq 4 _)) $$ [HR HcS4 Ho HaS4]
  · iframe HR HcS4 Ho HaS4
  iintro ⟨Ho, HvS4, Hx4⟩
  iapply (step_wait_send m ρ K c 5 (xSlice_eq (pe c 5) (show k0_off4 c 6#32 = ![512 * (pe c 5).val, 0] from k0_off4_eq c 5) _) (sendS_eq 5 _)) $$ [HR HcS5 Ho HaS5]
  · iframe HR HcS5 Ho HaS5
  iintro ⟨Ho, HvS5, Hx5⟩
  iapply (step_wait_send m ρ K c 6 (xSlice_eq (pe c 6) (show k0_off4 c 7#32 = ![512 * (pe c 6).val, 0] from k0_off4_eq c 6) _) (sendS_eq 6 _)) $$ [HR HcS6 Ho HaS6]
  · iframe HR HcS6 Ho HaS6
  iintro ⟨Ho, HvS6, Hx6⟩
  -- the scales and the result
  iapply (wp_load_rect 𝒱₀ (c : Thread nD τ) none Set.univ (m := sxM) (r := r1) (Finset.subset_univ _)) $$ Hsx
  iintro Hsx
  iapply (wp_load_rect 𝒱₀ (c : Thread nD τ) none Set.univ (m := swM) (r := r1) (Finset.subset_univ _)) $$ Hsw
  iintro Hsw
  iapply (wp_load 𝒱₀ (c : Thread nD τ) none Set.univ (m := oM) (Finset.subset_univ _)) $$ Hout
  iintro Hout
  iapply (wp_store 𝒱₀ (c : Thread nD τ) none Set.univ (m := oM) (r := r0) (Finset.subset_univ _)) $$ Hout
  iintro Hout
  rw [write_out]
-- every cell closes at zero
  imod (close_own m ρ K c) $$ [HaV] with HvV
  · iframe HR HaV
  ihave Hx := (x_join m ρ c) $$ [HxL Hx0 Hx1 Hx2 Hx3 Hx4 Hx5 Hx6]
  · iframe HxL Hx0 Hx1 Hx2 Hx3 Hx4 Hx5 Hx6
  ihave Hcomm := (s_join c (X := fun d => xPart m ρ d c)) $$ [HsL Hs0 Hs1 Hs2 Hs3 Hs4 Hs5 Hs6]
  · iframe HsL Hs0 Hs1 Hs2 Hs3 Hs4 Hs5 Hs6
  rw [wp_ret]; imodintro
  iapply Hk
  unfold bodyPost Φ₁ scr Dat.owesAt Pipeline.owesWithin ow
  rw [cells c (fun sm => semVal ((c : Thread nD τ), sm) 0), show (dats m ρ 0 c).owed t₀.succ = 0 from rfl]
  isplitl [Hcomm Hacc HvB HvL HvV HvS0 HvS1 HvS2 HvS3 HvS4 HvS5 HvS6 HvV0 HvV1 HvV2 HvV3 HvV4 HvV5 HvV6]
  · isplitl [Hcomm Hacc]
    · isplitl [Hcomm]; · iexact Hcomm
      iexists _; iexact Hacc
    iframe HvB HvL HvV HvS0 HvS1 HvS2 HvS3 HvS4 HvS5 HvS6 HvV0 HvV1 HvV2 HvV3 HvV4 HvV5 HvV6
  icases Ho with ⟨%W', Ho⟩
  isplitl [Ho]
  · iexists W'; isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      cc0_scratch1 cc0_scratch2 cc0_scratch3 (Memref.whole cc0_scratch4) (Memref.isWhole_whole _)) (fun _ => bodyPost m ρ c)
  unfold bodyPre' Φ₀ start
  iintro ⟨⟨⟨⟨%K, Hg⟩, Hcr, Hlev⟩, Hscr⟩, Ho, Hin⟩
  iapply (sound_body m ρ K c fun _ => bodyPost m ρ c)
  unfold bodyPre
  isplitr []
  · isplitl [Hg Hcr Hlev Hscr]
    · iframe Hg Hcr Hlev Hscr
    isplitl [Ho]; · iexact Ho
    iexact Hin
  · iintro H; iexact H

end Body

end Cert.KernelIdealRun

end
-- ==== Proof.KernelIdealLaunch.lean ====
/-
# The launch

What the launch deals each device — its cells' round states and positions, the tokens of the duties it pays and the
credit of what its peers owe it — and the run of the compiled program from any memory with zero counters.
-/
module

public import proofs.«01_k».proof.Proof.KernelIdealBody
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: the cells but the barrier's. -/
abbrev osem (k : Fin 16) : SemLoc sig := .dma (⟨5 + k.val, by show _ < 21; omega⟩ : DmaSem sig)
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- The tokens minted for device `c`, four for each of its seven peers: the peer's barrier, the landing on the peer, the
    send, and the local copy at round `h` (round 0 is the one that is used). -/
abbrev tokOf (x : Dev nD × Fin 4 × Fin 7) : GSem nD τ sig × ℕ × Dev nD := match x.2.1 with
  | 0 => (barCell (pe x.1 x.2.2), 0, x.1)
  | 1 => (recvCell (pe x.1 x.2.2) x.1, 0, x.1)
  | 2 => (sendCell x.1 x.2.2, 0, x.1)
  | 3 => (locCell x.1, x.2.2.val, x.1)

/-- Which of the four a token is. -/
def tokKind : Kind → Fin 4
  | .bar => 0 | .recv _ => 1 | .send _ => 2 | .loc => 3 | .other => 3
theorem tokKind_tokOf (c : Dev nD) (a : Fin 4) (h : Fin 7) : tokKind (kind (tokOf (c, a, h)).1.2) = a := by
  fin_cases a
  · show tokKind (kind (.reg barS)) = _; rw [kind_bar]; rfl
  · show tokKind (kind (.dma (recvS c))) = _; rw [kind_recv]; rfl
  · show tokKind (kind (.dma (sendS h))) = _; rw [kind_send]; rfl
  · show tokKind (kind (.dma locS)) = _; rw [kind_loc]; rfl

theorem tokOf_injective : Function.Injective (tokOf : Dev nD × Fin 4 × Fin 7 → GSem nD τ sig × ℕ × Dev nD) := by
  rintro ⟨c, a, h⟩ ⟨c', a', h'⟩ e
  have ha : a = a' := by
    have := congrArg (fun x : GSem nD τ sig × ℕ × Dev nD => tokKind (kind x.1.2)) e
    exact (tokKind_tokOf c a h).symm.trans (this.trans (tokKind_tokOf c' a' h'))
  subst ha
  have hc : c = c' := by
    have := congrArg (fun x : GSem nD τ sig × ℕ × Dev nD => x.2.2) e
    fin_cases a <;> exact this
  subst hc
  have hh : h = h' := by
    fin_cases a
    · exact pe_inj c (congrArg (fun x : GSem nD τ sig × ℕ × Dev nD => x.1.1.1) e)
    · exact pe_inj c (congrArg (fun x : GSem nD τ sig × ℕ × Dev nD => x.1.1.1) e)
    · have e2 : kind (.dma (sendS h)) = kind (.dma (sendS h')) := congrArg (fun x : GSem nD τ sig × ℕ × Dev nD => kind x.1.2) e
      rw [kind_send, kind_send] at e2; exact Kind.send.inj e2
    · exact Fin.ext (congrArg (fun x : GSem nD τ sig × ℕ × Dev nD => x.2.1) e)
  rw [hh]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : Fin 17 => roundState ER (ringRd m ρ) (kcell (c, k)) 0)
    ∗ (bigSep Finset.univ fun k : Fin 17 => iprop(atPos ER (kcell (c, k)) 0 ∅ 0 ∗ reached ER (kcell (c, k)) 0)) ∗ payToks c)

/-- What the global step makes of it. -/
def G' (c : Dev nD) : sProp 𝕄 := iprop(∃ K, ghost m ρ K c)

omit [FloatOps F] in
theorem toks_pay (c : Dev nD) :
    (bigSep Finset.univ fun x : Fin 4 × Fin 7 => (dutyTok ER (tokOf (c, x)).1 (tokOf (c, x)).2.1 (tokOf (c, x)).2.2 : sProp 𝕄)) ⊢ payToks c := by
  rw [bigSep_univ_prod, bigSep_univ_eq_bigSepL [0, 1, 2, 3] (by decide) (by decide)]
  unfold payToks
  show iprop((bigSep Finset.univ fun h : Fin 7 => dutyTok ER (barCell (pe c h)) 0 c)
    ∗ (bigSep Finset.univ fun h : Fin 7 => dutyTok ER (recvCell (pe c h) c) 0 c)
    ∗ (bigSep Finset.univ fun h : Fin 7 => dutyTok ER (sendCell c h) 0 c)
    ∗ (bigSep Finset.univ fun h : Fin 7 => dutyTok ER (locCell c) h.val c)) ⊢ _
  exact sep_mono_right (sep_mono_right (sep_mono_right (bigSep_elim (Finset.mem_univ (0 : Fin 7)))))

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => payToks c := by
    unfold ringToks; rw [bigSep_map, bigSep_univ_prod]
    exact bigSep_mono fun c _ => toks_pay c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  iframe Hst' Hat' Hr' Htok'

/-! ## The semaphores at zero -/

omit [FloatOps F] in
theorem sems_eq (c : Dev nD) :
    (bigSep Finset.univ fun k : Fin 17 => (semVal (kcell (c, k)) 0 : sProp 𝕄))
      = iprop(unscopedSems0 c ∗ Pipeline.ownSems0 (Ix := Unit) (Name := ℕ) (U := UU) (Lvl := ℕ) (Val := Elt F) (τ := τ) osem c) := by
  rw [Pipeline.ownSems0_eq_of_list c osem [0, 1, 2, 3, 4, 5, 6, 7, 8, 9, 10, 11, 12, 13, 14, 15] (by decide) (by decide),
    bigSep_univ_eq_bigSepL [0, 1, 2, 3, 4, 5, 6, 7, 8, 9, 10, 11, 12, 13, 14, 15, 16] (by decide) (by decide)]
  unfold unscopedSems0
  rw [bigSep_eq_bigSepL_of_eq [SemLoc.reg barS] (by decide) (by decide)]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 17 => iprop(∃ κ : ℕ, cellInv ER (ringRd m ρ) κ (kcell (c, k))))
          ∗ (bigSep Finset.univ fun k : Fin 17 => iprop(atPos ER (kcell (c, k)) 0 ∅ 0 ∗ reached ER (kcell (c, k)) 0)) ∗ payToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 17 => semVal (kcell (c, k)) 0) ∗ bigSep Finset.univ fun k : Fin 17 => roundState ER (ringRd m ρ) (kcell (c, k)) 0)
      ⊢ (|={Set.univ}=> bigSep Finset.univ fun k : Fin 17 => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  iframe Hinv Hat Htok

/-! ## The records shared among all devices -/

def linear (c : Dev nD) : sProp 𝕄 := iprop((bigSep Finset.univ fun k : Fin 17 => atPos ER (kcell (c, k)) 0 ∅ 0) ∗ payToks c)

omit [FloatOps F] in
theorem ghost_intro (K : Dev nD × Fin 17 → ℕ) (c : Dev nD) : iprop(records m ρ K ∗ linear c) ⊢ (G' m ρ c : sProp 𝕄) := by
  unfold linear G' ghost
  iintro ⟨HR, Ha, Ht⟩
  iexists K
  iframe HR Ha Ht

omit [FloatOps F] in
theorem ghost_all (K : Dev nD × Fin 17 → ℕ) :
    iprop(records m ρ K ∗ bigSep Finset.univ fun c : Dev nD => linear c) ⊢ (bigSep Finset.univ (G' m ρ) : sProp 𝕄) := by
  refine (sep_mono_left (BI.bigSep_of_persistent (Finset.univ : Finset (Dev nD)) (records m ρ K))).trans ?_
  rw [← bigSep_sep']
  exact bigSep_mono fun c _ => ghost_intro m ρ K c

omit [FloatOps F] in
theorem regroup :
    (bigSep Finset.univ fun c : Dev nD => iprop((bigSep Finset.univ fun k : Fin 17 => iprop(∃ κ : ℕ, cellInv ER (ringRd m ρ) κ (kcell (c, k))))
          ∗ (bigSep Finset.univ fun k : Fin 17 => iprop(atPos ER (kcell (c, k)) 0 ∅ 0 ∗ reached ER (kcell (c, k)) 0)) ∗ payToks c) : sProp 𝕄)
      ⊢ bigSep Finset.univ (G' m ρ) := by
  rw [bigSep_sep', bigSep_sep', ← bigSep_univ_prod (fun ck : Dev nD × Fin 17 => iprop(∃ κ : ℕ, cellInv ER (ringRd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, HR⟩, Htok⟩
  ihave HK := (BI.bigSep_exists_pi Finset.univ (fun (ck : Dev nD × Fin 17) (κ : ℕ) => (cellInv ER (ringRd m ρ) κ (kcell ck) : sProp 𝕄))) $$ HI
  icases HK with ⟨%K, HI⟩
  iapply (ghost_all m ρ K)
  isplitl [HI HR]
  · unfold records; iframe HI HR
  · unfold linear; rw [bigSep_sep']; iframe Hat Htok

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b s t : Dev nD} : Iff (recvCell a s = recvCell b t) (a = b ∧ s = t) :=
  ⟨fun h => ⟨congrArg (fun g : GSem nD τ sig => g.1.1) h, by
    have e : kind (.dma (recvS s)) = kind (.dma (recvS t)) := congrArg (fun g : GSem nD τ sig => kind g.2) h
    rw [kind_recv, kind_recv] at e; exact Kind.recv.inj e⟩, fun h => h.1 ▸ h.2 ▸ rfl⟩
theorem bar_ne_recv (a b s : Dev nD) : barCell a ≠ recvCell b s := fun h => by
  have e : kind (.reg barS) = kind (.dma (recvS s)) := congrArg (fun g : GSem nD τ sig => kind g.2) h
  rw [kind_bar, kind_recv] at e; cases e

theorem all_from : Finset.univ.filter (fun h : Fin 7 => 0 ≤ h.val) = Finset.univ := by decide

/-- A unit for the barrier of each peer. -/
theorem owed_bar (d c : Dev nD) : O₀ d (barCell c) () = ∑ h : Fin 7, if c = pe d h then 1 else 0 := by
  unfold O₀ OB OR
  rw [all_from, Pi.add_apply, Finsupp.add_apply, Finset.sum_apply, Finsupp.finset_sum_apply, Finset.sum_apply, Finsupp.finset_sum_apply,
    Finset.sum_eq_zero fun h _ => by rw [tallyAt_ne_cell (bar_ne_recv _ _ _)]; rfl, Nat.zero_add]
  refine Finset.sum_congr rfl fun h _ => ?_
  rw [tallyAt_apply]
  exact if_congr ⟨fun e => bar_eq_iff.mp e.1, fun e => ⟨bar_eq_iff.mpr e, rfl⟩⟩ rfl rfl
/-- A block's credit for its slot on each peer. -/
theorem owed_recv (d c s : Dev nD) : O₀ d (recvCell c s) () = ∑ h : Fin 7, if c = pe d h ∧ s = d then N else 0 := by
  unfold O₀ OB OR
  rw [all_from, Pi.add_apply, Finsupp.add_apply, Finset.sum_apply, Finsupp.finset_sum_apply, Finset.sum_apply, Finsupp.finset_sum_apply,
    Finset.sum_eq_zero (f := fun h => (tallyAt (barCell (pe d h)) () 1 : CellTallies nD τ sig Unit) (recvCell c s) ()) fun h _ => by
      rw [tallyAt_ne_cell (bar_ne_recv _ _ _).symm]; rfl, Nat.add_zero]
  refine Finset.sum_congr rfl fun h _ => ?_
  rw [tallyAt_apply]
  exact if_congr ⟨fun e => recv_eq_iff.mp e.1, fun e => ⟨recv_eq_iff.mpr e, rfl⟩⟩ rfl rfl

theorem count_bar (c : Dev nD) : (∑ d : Dev nD, ∑ h : Fin 7, if c = pe d h then 1 else 0) = 7 := by revert c; decide
theorem count_recv (c : Dev nD) (k : Fin 7) : (∑ d : Dev nD, ∑ h : Fin 7, if c = pe d h ∧ pe c k = d then 1 else 0) = 1 := by revert c k; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_recv (c : Dev nD) (k : Fin 7) :
    tallyOn (recvCell c (pe c k)) (launchCredit (Pipeline.owing O₀) 0 (recvCell c (pe c k))) = (tallyAt (recvCell c (pe c k)) () N : CellTallies nD τ sig Unit) := by
  unfold tallyAt; refine congrArg _ (Finsupp.ext fun u => ?_); cases u
  rw [Pipeline.launchCredit_owing, Finsupp.single_eq_same, Finset.sum_congr rfl fun d _ => owed_recv d c (pe c k)]
  have h (d : Dev nD) (h : Fin 7) : (if c = pe d h ∧ pe c k = d then N else 0) = N * (if c = pe d h ∧ pe c k = d then 1 else 0) := by
    split <;> simp
  rw [Finset.sum_congr rfl fun d _ => Finset.sum_congr rfl fun h' _ => h d h']
  simp only [← Finset.mul_sum]
  rw [count_recv, Nat.mul_one]

/-- The landing cells device `c` waits on. -/
def landings (c : Dev nD) : Fin 7 ↪ SemLoc sig := ⟨fun k => .dma (recvS (pe c k)), fun k k' e => by
  have e' : kind (.dma (recvS (pe c k))) = kind (.dma (recvS (pe c k'))) := congrArg kind e
  rw [kind_recv, kind_recv] at e'; exact pe_inj c (Kind.recv.inj e')⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map (landings c)) fun sm hsm => ?_).trans ?_
  · obtain ⟨k, -, rfl⟩ := Finset.mem_map.mp hsm
    exact Finset.mem_erase.mpr ⟨fun e => bar_ne_recv c c (pe c k) (congrArg (fun sm => ((c : Thread nD τ), sm)) e.symm), Finset.mem_univ _⟩
  · rw [bigSep_map]
    exact Entails.of_eq (bigSep_congr fun k _ => congrArg cred (launch_recv c k))

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · iframe HG Hc Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  iframe Hs Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems_eq]
  iintro ⟨Hr, Hu, Ho⟩
  iframe Hu Ho Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program — the eight kernels signal each other, exchange their blocks and multiply — terminates, and
    every final state has each device's result array at the computed contents, the arguments unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array after the run holds what it held. -/
theorem finalA_in (c : Dev nD) (w : Fin 5) (hw : (cfg0.win w).isOut = false) : finalA m ρ c w = (s₀ m ρ).mem ((cfg0.win w).arr.view.loc (c : Thread nD τ)) :=
  (dats (F := F) m ρ 0 c).arrAt_in w hw _

end Cert.KernelIdealRun

end
-- ==== Proof.SameProgram.lean ====
/-
# The kernel and its idealization are one text

The idealization rewrote nothing, so the two programs are the same but for their names: their buffers, their bodies and
their calls unfold to the same terms. What is proved of the idealization, for any float values, is so of the kernel.
-/
module

public import proofs.«01_k».proof.Proof.Gen.Kernel
public import proofs.«01_k».proof.Proof.Gen.KernelIdeal
public import proofs.«01_k».proof.Proof.KernelIdealLaunch

@[expose] public section

noncomputable section

namespace Cert.SameProgram

open Idealize.ShloMosaic Idealize.SL.Sem

variable {F : FTy → Type} [FloatOps F]

/-- The one body, under its label. -/
theorem bodies : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Λ := Cert.Kernel.Λ₀)) (funext fun l => funext fun x => ?_)
  match l, x with
  | ⟨0, _⟩, (t, s) => rfl
  | ⟨_ + 1, h⟩, _ => exact absurd h (Nat.not_lt.2 (Nat.le_add_left _ _))

/-- The body with the pipeline around it. -/
theorem programs : Cert.Kernel.defs (F := F) = Cert.KernelIdeal.defs (F := F) := by
  show Pipeline.defs _ Cert.Kernel.defs₀ = Pipeline.defs _ Cert.KernelIdeal.defs₀
  rw [bodies]

/-- The kernel's run is the idealization's, at the same float values. -/
theorem run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => Cert.KernelIdealRun.QC (F := F) m ρ r ∧ r.2.sem = fun _ => 0) := by
  rw [programs]
  exact Cert.KernelIdealRun.run_main (F := F) m ρ

end Cert.SameProgram

end
-- ==== Proof.BlockProduct.lean ====
/-
# Products of int8 blocks, and sums of eight of them

What one block's product computes, for any block shapes: the word of the whole-number product while the contraction is
within the matrix unit's exact range (`product_word`). Eight such words added are the word of the sum of the eight
whole numbers (`add_word`), and that word, read signed, is the sum, for it is at most 8 · 512 · 2¹⁴ = 2²⁶ in magnitude
(`sum_toInt`).
Last, a sum of products of whole numbers read as extended reals is the sum read as one (`coe_dot`), and a sum over 4096
is eight sums over 512 (`sum_blocks`).
-/
module

public import Idealize.ShloMosaic.Lib.IntMxu
public import Idealize.ShloMosaic.Lib.ValueIdx
public import Idealize.ShloMosaic.Lib.MatmulPlain

@[expose] public section

noncomputable section

namespace Cert.BlockProduct

open Idealize.ShloMosaic Idealize.ShloMosaic.ValueIdx
open scoped BigOperators

/-- The whole-number product of two int8 matrices at row `r` and column `q`. -/
def dot {M K N : ℕ} (x : IVec ⟨2, ![M, K]⟩ 8) (w : IVec ⟨2, ![K, N]⟩ 8) (r : Fin M) (q : Fin N) : ℤ :=
  ∑ k : Fin K, (x (ix2 r k)).toInt * (w (ix2 k q)).toInt

/-- The product over the one contracted coordinate. -/
theorem dotI8_eq {M K N : ℕ} (x : IVec ⟨2, ![M, K]⟩ 8) (w : IVec ⟨2, ![K, N]⟩ 8) (r : Fin M) (q : Fin N) :
    dotI8 (DotDims.plain M K N) x w (ix2 r q) = dot x w r q := by
  unfold dotI8 dot
  rw [← Equiv.sum_comp (DotDims.plainContr M K N).symm]
  refine Finset.sum_congr rfl fun k _ => ?_
  have hk := contrEquiv1_symm_val _ K (DotDims.plain_contr_rank M K N) (DotDims.plain_contr_size M K N) k
  congr 3
  · funext a; apply Fin.ext
    match a with
    | ⟨0, _⟩ => rfl
    | ⟨1, _⟩ => exact hk
  · funext a; apply Fin.ext
    match a with
    | ⟨0, _⟩ => exact hk
    | ⟨1, _⟩ => rfl

/-- A block's product onto zero words: the word of the whole-number product. -/
theorem product_word {M K N : ℕ} (g : IntMxuNumerics) (x : IVec ⟨2, ![M, K]⟩ 8) (w : IVec ⟨2, ![K, N]⟩ 8)
    (hK : (DotDims.plain M K N).contr.numel * 2 ^ 14 ≤ g.exactUpTo) (r : Fin M) (q : Fin N) :
    matmulI8 g (DotDims.plain M K N) x w (constantI ⟨2, ![M, N]⟩ 32 0#32) (ix2 r q) = BitVec.ofInt 32 (dot x w r q) := by
  rw [matmulI8_exact_of_numel _ _ x w _ _ rfl hK, dotI8_eq]

/-- Words of whole numbers add to the word of the sum. -/
theorem add_word (a b : ℤ) : BitVec.ofInt 32 a + BitVec.ofInt 32 b = BitVec.ofInt 32 (a + b) := (BitVec.ofInt_add a b).symm

/-- A whole-number product of int8 matrices is at most 2¹⁴ a position in magnitude. -/
theorem dot_le {M K N : ℕ} (x : IVec ⟨2, ![M, K]⟩ 8) (w : IVec ⟨2, ![K, N]⟩ 8) (r : Fin M) (q : Fin N) :
    |dot x w r q| ≤ K * 2 ^ 14 := by
  refine (Finset.abs_sum_le_sum_abs _ _).trans ?_
  have h : ∀ k ∈ (Finset.univ : Finset (Fin K)), |(x (ix2 r k)).toInt * (w (ix2 k q)).toInt| ≤ 2 ^ 14 := by
    intro k _
    have hx : |(x (ix2 r k)).toInt| ≤ 128 := by have := natAbs_toInt_i8_le (x (ix2 r k)); exact abs_le.mpr ⟨by omega, by omega⟩
    have hw : |(w (ix2 k q)).toInt| ≤ 128 := by have := natAbs_toInt_i8_le (w (ix2 k q)); exact abs_le.mpr ⟨by omega, by omega⟩
    rw [abs_mul]
    calc _ ≤ (128 : ℤ) * 128 := mul_le_mul hx hw (abs_nonneg _) (by decide)
      _ = 2 ^ 14 := by decide
  simpa using Finset.sum_le_card_nsmul Finset.univ _ (2 ^ 14) h

/-- The word of a sum of eight numbers of at most 2²³ in magnitude, read signed, is the sum. -/
theorem sum_toInt (f : Fin 8 → ℤ) (hf : ∀ s, |f s| ≤ 512 * 2 ^ 14) : (BitVec.ofInt 32 (∑ s, f s)).toInt = ∑ s, f s := by
  have h : |∑ s, f s| ≤ 8 * (512 * 2 ^ 14) := by
    refine (Finset.abs_sum_le_sum_abs _ _).trans ?_
    simpa using Finset.sum_le_card_nsmul Finset.univ _ _ fun s _ => hf s
  rw [BitVec.toInt_ofInt]
  have h' := abs_le.mp h
  apply Int.bmod_eq_of_le <;> omega

/-- Products of whole numbers, read as extended reals one by one and summed, are the sum read as one. -/
theorem coe_dot {ι : Type} (t : Finset ι) (f g : ι → ℤ) :
    (∑ k ∈ t, (((f k : ℤ) : ℝ) : EReal) * (((g k : ℤ) : ℝ) : EReal)) = (((∑ k ∈ t, f k * g k : ℤ) : ℝ) : EReal) := by
  classical
  induction t using Finset.induction_on with
  | empty => simp
  | insert a t ha ih =>
    rw [Finset.sum_insert ha, Finset.sum_insert ha, ih, Int.cast_add, Int.cast_mul, EReal.coe_add, EReal.coe_mul]

/-- Position `k` of block `s`, of eight blocks of 512. -/
def at512 (s : Fin 8) (k : Fin 512) : Fin 4096 := ⟨512 * s.val + k.val, by omega⟩

/-- A sum over 4096 positions, block by block. -/
theorem sum_blocks (f : Fin 4096 → ℤ) : ∑ k, f k = ∑ s : Fin 8, ∑ k : Fin 512, f (at512 s k) := by
  rw [← Fintype.sum_prod_type' (f := fun s k => f (at512 s k))]
  refine (Equiv.sum_comp (finProdFinEquiv (m := 8) (n := 512)) f).symm.trans (Finset.sum_congr rfl fun p _ => congrArg f (Fin.ext ?_))
  show p.2.val + 512 * p.1.val = 512 * p.1.val + p.2.val
  omega

end Cert.BlockProduct

end
-- ==== Proof.Gate.lean ====
/-
# The last step, entry by entry

Both programs end the same way: a whole number scaled by the product of two scales, `y`, then `y / (1 + exp (−clip y))`
with `clip` to [−60, 60]. Here it is once, over the extended reals.
-/
module

public import Idealize.ShloMosaic.Lib.ValueIdx

@[expose] public section

noncomputable section

namespace Cert.Gate

open Idealize.ShloMosaic

/-- `y / (1 + exp (−min 60 (max (−60) y)))`. -/
def gate (y : EReal) : EReal :=
  Ideal.div y (Ideal.ofBits .f32 0x3F800000#32
    + Ideal.exp (-(min (Ideal.ofBits .f32 0x42700000#32) (max (Ideal.ofBits .f32 0xC2700000#32) y))))

/-- Both programs' result at one entry: from the whole number `n` and the two scales. -/
def entry (n : ℤ) (a b : EReal) : EReal := gate (((n : ℝ) : EReal) * (a * b))

end Cert.Gate

end
-- ==== Proof.KernelValue.lean ====
/-
# What the result array holds

The four operands a device's kernel finds are its four argument arrays (`xstg_eq` …), and its result array ends at the
kernel's result (`final_out`). The accumulator is the word of a whole number: the sum, over the eight devices `s`, of
the product of the row block device `s` sends with rows `512 s …` of `w` (`acc_word`, `acc_toInt`). At the extended
reals the result is `entry` of that number and the two scales (`out_apply`).
-/
module

public import proofs.«01_k».proof.Proof.KernelIdealLaunch
public import proofs.«01_k».proof.Proof.BlockProduct
public import proofs.«01_k».proof.Proof.Gate
public import Idealize.ShloMosaic.Lib.Pipeline.Value

@[expose] public section

noncomputable section

namespace Cert.KernelIdealRun

open Cert.KernelIdeal Cert.KernelIdeal.Gen Cert.BlockProduct

open Idealize.ShloMosaic Idealize.ShloMosaic.TcCoe Idealize.ShloMosaic.ValueIdx
open scoped BigOperators

variable {F : FTy → Type} [FloatOps F]
variable (m : (ℓ : Loc nD τ sig) → Buf (Elt F) ℓ) (ρ : Dev nD → PrngReg)

/-! ## The arrays -/

theorem xstg_eq (c : Dev nD) : xstg m ρ c = m ((c : Thread nD τ).loc main_arg0) :=
  Memref.read_access_unit_zero (Elt F) main_arg0 (funext fun a => by fin_cases a <;> decide) (fun a => by fin_cases a <;> decide) _
theorem wstg_eq (c : Dev nD) : wstg m ρ c = m ((c : Thread nD τ).loc main_arg1) :=
  Memref.read_access_unit_zero (Elt F) main_arg1 (funext fun a => by fin_cases a <;> decide) (fun a => by fin_cases a <;> decide) _
theorem sxstg_eq (c : Dev nD) : sxstg m ρ c = m ((c : Thread nD τ).loc main_arg2) :=
  Memref.read_access_unit_zero (Elt F) main_arg2 (funext fun a => by fin_cases a <;> decide) (fun a => by fin_cases a <;> decide) _
theorem swstg_eq (c : Dev nD) : swstg m ρ c = m ((c : Thread nD τ).loc main_arg3) :=
  Memref.read_access_unit_zero (Elt F) main_arg3 (funext fun a => by fin_cases a <;> decide) (fun a => by fin_cases a <;> decide) _

/-- The result array after the run: the kernel's result, stored at the one grid point. -/
theorem final_out (c : Dev nD) : finalA m ρ c (4 : Fin 5) = outAt m ρ c := by
  have h : ((cfg0.win (4 : Fin 5)).blk t₀).view.read (Elt F) ((dats m ρ 0 c).arrAt (4 : Fin 5) cfg0.N) = (dats m ρ 0 c).flushed (4 : Fin 5) t₀ := by
    rw [show cfg0.N = (t₀ : Fin cfg0.N).val + 1 from cfg0_N, (dats m ρ 0 c).arrAt_succ (4 : Fin 5) t₀,
      show (cfg0.win (4 : Fin 5)).flush t₀ = true from by decide, if_pos rfl]
    exact View.read_write_univ _ _
  exact (Memref.read_access_unit_zero (Elt F) main_v1 (funext fun a => by fin_cases a <;> decide) (fun a => by fin_cases a <;> decide) _).symm.trans h

/-! ## The blocks, entry by entry -/

theorem xPart_apply (s d : Dev nD) (r k : Fin 512) :
    xPart m ρ s d (ix2 r k) = (m ((s : Thread nD τ).loc main_arg0) : IVec S4096x512 8) (ix2 (at512 d r) k) := by
  show xstg m ρ s ((xRect d).emb (ix2 r k)) = _
  rw [xstg_eq]
  refine congrArg (m ((s : Thread nD τ).loc main_arg0) : IVec S4096x512 8) (funext fun a => Fin.ext ?_)
  match a with
  | ⟨0, _⟩ => rw [Rect.emb_apply]; show 512 * d.val + 1 * r.val = 512 * d.val + r.val; omega
  | ⟨1, _⟩ => rw [Rect.emb_apply]; show 0 + 1 * k.val = k.val; omega

theorem wPart_apply (s c : Dev nD) (k : Fin 512) (q : Fin 2048) :
    wPart m ρ s c (ix2 k q) = (m ((c : Thread nD τ).loc main_arg1) : IVec S4096x2048 8) (ix2 (at512 s k) q) := by
  show wstg m ρ c ((wRect s).emb (ix2 k q)) = _
  rw [wstg_eq]
  refine congrArg (m ((c : Thread nD τ).loc main_arg1) : IVec S4096x2048 8) (funext fun a => Fin.ext ?_)
  match a with
  | ⟨0, _⟩ => rw [Rect.emb_apply]; show 512 * s.val + 1 * k.val = 512 * s.val + k.val; omega
  | ⟨1, _⟩ => rw [Rect.emb_apply]; show 0 + 1 * q.val = q.val; omega

/-- One scale is its array's one entry. -/
theorem idx1 (i j : S1.Idx) : i = j := funext fun a => Fin.ext (by
  have hi : (i a).val < 1 := by fin_cases a; exact (i 0).isLt
  have hj : (j a).val < 1 := by fin_cases a; exact (j 0).isLt
  omega)
theorem sxVal_eq (c : Dev nD) (i : S1.Idx) : sxVal m ρ c = (m ((c : Thread nD τ).loc main_arg2) : FVec F S1 .f32) i := by
  show sxstg m ρ c _ = _
  rw [sxstg_eq]
  exact congrArg (m ((c : Thread nD τ).loc main_arg2) : FVec F S1 .f32) (idx1 _ _)
theorem swVal_eq (c : Dev nD) (i : S1.Idx) : swVal m ρ c = (m ((c : Thread nD τ).loc main_arg3) : FVec F S1 .f32) i := by
  show swstg m ρ c _ = _
  rw [swstg_eq]
  exact congrArg (m ((c : Thread nD τ).loc main_arg3) : FVec F S1 .f32) (idx1 _ _)

/-! ## The accumulator -/

/-- One block's product, as the kernel writes it. -/
theorem block_word (x : IVec S512x512 8) (w : IVec S512x2048 8) (r : Fin 512) (q : Fin 2048) :
    matmulI8 IntMxuNumerics.v7x dot_S512x512_S512x2048_S512x2048_1_0_0_1_n_n x w
      (constantI S512x2048 32 0#32) (ix2 r q) = BitVec.ofInt 32 (dot x w r q) :=
  product_word IntMxuNumerics.v7x x w (by decide) r q

/-- The share of device `s` in device `c`'s result, at one entry. -/
def share (c : Dev nD) (r : Fin 512) (q : Fin 2048) (s : Dev nD) : ℤ := dot (M := 512) (K := 512) (N := 2048) (xPart m ρ s c) (wPart m ρ s c) r q

/-- A sum over the devices, read from `c` on and then its peers from the farthest. -/
theorem sum_around (c : Dev nD) (f : Dev nD → ℤ) :
    ∑ s, f s = f c + f (pe c 6) + f (pe c 5) + f (pe c 4) + f (pe c 3) + f (pe c 2) + f (pe c 1) + f (pe c 0) := by
  rw [ringOf_univ c, List.sum_toFinset _ (ringOf_nodup c)]
  simp only [ringOf, List.map_cons, List.map_nil, List.sum_cons, List.sum_nil]
  ring

/-- The accumulator is the word of the sum of the eight shares; -/
theorem acc_word (c : Dev nD) (r : Fin 512) (q : Fin 2048) :
    accAt m ρ c (ix2 r q) = BitVec.ofInt 32 (∑ s, share m ρ c r q s) := by
  rw [sum_around c]
  unfold accAt share
  simp only [k0_pay2, k0_pay3, k0_pay4, k0_pay5, k0_pay6, addi, shapeCast_self]
  simp only [IntOp.addi, block_word, add_word]

/-- read signed, it is that sum. -/
theorem acc_toInt (c : Dev nD) (r : Fin 512) (q : Fin 2048) :
    (accAt m ρ c (ix2 r q)).toInt = ∑ s, share m ρ c r q s := by
  rw [acc_word]
  exact sum_toInt (share m ρ c r q) fun s => by
    have := dot_le (M := 512) (K := 512) (N := 2048) (xPart m ρ s c) (wPart m ρ s c) r q
    exact_mod_cast this

/-! ## The result -/

/-- The kernel's result at one entry, over the extended reals. -/
theorem out_apply (m : (ℓ : Loc nD τ sig) → Buf (Elt Ideal) ℓ) (ρ : Dev nD → PrngReg) (c : Dev nD) (r : Fin 512) (q : Fin 2048) :
    (outAt (F := Ideal) m ρ c : FVec Ideal S512x2048 .f32) (ix2 r q)
      = Gate.entry (∑ s, share m ρ c r q s) (sxVal (F := Ideal) m ρ c) (swVal (F := Ideal) m ρ c) := by
  rw [← acc_toInt]
  unfold outAt Gate.entry Gate.gate
  rw [← zero_sub (min _ _), ← Ideal.ofBits_zero_f32]
  rfl

end Cert.KernelIdealRun

end
-- ==== Proof.ReferenceValue.lean ====
/-
# What the reference computes

`refOut`: the reference's composed term of its four arguments. At one entry, over the extended reals, it is `entry` of
the whole-number product of the two int8 matrices, over all 4096 positions, and the two scales (`refOut_apply`).
-/
module

public import proofs.«01_k».proof.Proof.Gen.ReferenceIdeal
public import proofs.«01_k».proof.Proof.BlockProduct
public import proofs.«01_k».proof.Proof.Gate
public import Idealize.ShloMosaic.Lib.StackMember

@[expose] public section

noncomputable section

namespace Cert.ReferenceValue

open Cert.ReferenceIdeal Cert.ReferenceIdeal.Gen Cert.BlockProduct

open Idealize.ShloMosaic Idealize.ShloMosaic.ValueIdx
open scoped BigOperators

/-- The scaled product. -/
def scaled (x : IVec S4096x4096 8) (w : IVec S4096x2048 8) (sx sw : FVec Ideal S1 .f32) : FVec Ideal S4096x2048 .f32 :=
  mulf (Host.dotGeneral dot_S4096x4096_S4096x2048_S4096x2048_1_0_0_1_n_n none (sitofp .f32 (extsi 32 x natLt_8_32)) (sitofp .f32 (extsi 32 w natLt_8_32)))
    (broadcastInDim S4096x2048 ![0, 1] bcast_S1x1_S4096x2048_0_1 (broadcastInDim S1x1 ![1] bcast_S1_S1x1_1 (mulf sx sw)))

/-- The last step, of the scaled product `y`. -/
def finish (y : FVec Ideal S4096x2048 .f32) : FVec Ideal S4096x2048 .f32 :=
  Host.divf y (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) y)))))

/-- The reference's result. -/
def refOut (x : IVec S4096x4096 8) (w : IVec S4096x2048 8) (sx sw : FVec Ideal S1 .f32) : FVec Ideal S4096x2048 .f32 :=
  finish (scaled x w sx sw)

theorem finish_apply (y : FVec Ideal S4096x2048 .f32) (j : S4096x2048.Idx) : finish y j = Gate.gate (y j) := rfl

/-- An int8 entry as the reference reads it: the whole number. -/
theorem read_entry {s : Shape} (x : IVec s 8) (i : s.Idx) :
    (sitofp .f32 (extsi 32 x natLt_8_32) : FVec Ideal s .f32) i = ((((x i).toInt : ℤ) : ℝ) : EReal) := by
  show ((((x i).signExtend 32).toInt : ℝ) : EReal) = _
  rw [BitVec.toInt_signExtend_of_le (by decide)]

/-- The reference's product is the whole-number product. -/
theorem product_apply (x : IVec S4096x4096 8) (w : IVec S4096x2048 8) (r : Fin 4096) (q : Fin 2048) :
    (Host.dotGeneral dot_S4096x4096_S4096x2048_S4096x2048_1_0_0_1_n_n none (sitofp .f32 (extsi 32 x natLt_8_32))
      (sitofp .f32 (extsi 32 w natLt_8_32)) : FVec Ideal S4096x2048 .f32) (ix2 r q) = (((dot x w r q : ℤ) : ℝ) : EReal) := by
  refine (StackMember.dotGeneral_plain_apply (m := 4096) (k := 4096) (n := 2048) none _ _ r q).trans ?_
  simp only [read_entry]
  exact coe_dot Finset.univ _ _

theorem scaled_apply (x : IVec S4096x4096 8) (w : IVec S4096x2048 8) (sx sw : FVec Ideal S1 .f32) (r : Fin 4096) (q : Fin 2048) :
    scaled x w sx sw (ix2 r q) = (((dot x w r q : ℤ) : ℝ) : EReal) * (sx (ix1 0) * sw (ix1 0)) := by
  unfold scaled
  rw [mulf_apply, product_apply]
  refine congrArg (_ * ·) ?_
  show sx _ * sw _ = _
  congr 2 <;> exact (eq_ix1 _).trans (congrArg ix1 (Subsingleton.elim (α := Fin 1) _ _))

/-- The reference's result at one entry. -/
theorem refOut_apply (x : IVec S4096x4096 8) (w : IVec S4096x2048 8) (sx sw : FVec Ideal S1 .f32) (r : Fin 4096) (q : Fin 2048) :
    refOut x w sx sw (ix2 r q) = Gate.entry (dot x w r q) (sx (ix1 0)) (sw (ix1 0)) := by
  unfold Gate.entry refOut
  rw [finish_apply, scaled_apply]

end Cert.ReferenceValue

end
-- ==== Proof.Equation.lean ====
/-
# The equation

Device `c`'s result is row block `c` of the reference's. Entry by entry, both are `entry` of a whole number and the two
scales, and the whole numbers agree: the reference's sum over 4096 positions is eight sums over 512, the `s`-th of them
the share of device `s`, which holds columns `512 s …` of `x`.
-/
module

public import proofs.«01_k».proof.Proof.KernelValue
public import proofs.«01_k».proof.Proof.ReferenceValue
public import Idealize.ShloMosaic.Lib.Layout

@[expose] public section

noncomputable section

namespace Cert.Equation

open Cert.KernelIdeal Cert.KernelIdeal.Gen Cert.KernelIdealRun Cert.BlockProduct Cert.ReferenceValue

open Idealize.ShloMosaic Idealize.ShloMosaic.TcCoe Idealize.ShloMosaic.ValueIdx
open scoped BigOperators

variable (m : (ℓ : Loc nD τ sig) → Buf (Elt Ideal) ℓ) (ρ : Dev nD → PrngReg)
variable (x : IVec ⟨2, ![4096, 4096]⟩ 8) (w : IVec ⟨2, ![4096, 2048]⟩ 8) (sx sw : FVec Ideal ⟨1, ![1]⟩ .f32)

/-- The shares add to the reference's whole number. -/
theorem shares (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = w) (c : Dev nD) (r : Fin 512) (q : Fin 2048) :
    ∑ s, share m ρ c r q s = dot x w (at512 c r) q := by
  rw [show dot x w (at512 c r) q = _ from sum_blocks _]
  refine Finset.sum_congr rfl fun s _ => ?_
  unfold share dot
  refine Finset.sum_congr rfl fun k _ => ?_
  rw [xPart_apply, wPart_apply, hx s, hw c]
  refine congrArg (fun i => (x i).toInt * (w (ix2 (at512 s k) q)).toInt) (funext fun a => Fin.ext ?_)
  match a with
  | ⟨0, _⟩ => rfl
  | ⟨1, _⟩ => show s.val * 512 + k.val = 512 * s.val + k.val; omega

/-- Device `c`'s result is row block `c` of the reference's result. -/
theorem out_eq_block (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = w)
    (hsx : ∀ c : Dev nD, m ((c : Thread nD τ).loc main_arg2) = sx) (hsw : ∀ c : Dev nD, m ((c : Thread nD τ).loc main_arg3) = sw) (c : Dev nD) :
    (outAt m ρ c : FVec Ideal S512x2048 .f32) = Layout.block ⟨2, ![512, 2048]⟩ ⟨2, ![4096, 2048]⟩ 0 8 c (refOut x w sx sw) := by
  funext j
  obtain ⟨r, q, rfl⟩ : ∃ (r : Fin 512) (q : Fin 2048), j = ix2 r q := ⟨_, _, eq_ix2 j⟩
  have hj : refOut x w sx sw (ix2 (at512 c r) q) = Layout.block ⟨2, ![512, 2048]⟩ ⟨2, ![4096, 2048]⟩ 0 8 c (refOut x w sx sw) (by decide) (ix2 r q) :=
    congrArg (refOut x w sx sw) (funext fun a => Fin.ext (by
      match a with
      | ⟨0, _⟩ => show 512 * c.val + r.val = c.val * 512 + r.val; omega
      | ⟨1, _⟩ => rfl))
  rw [← hj, out_apply, refOut_apply, shares m ρ x w hx hw, sxVal_eq m ρ c (ix1 0), swVal_eq m ρ c (ix1 0), hsx c, hsw c]

end Cert.Equation

end
-- ==== Proof.lean ====
/-
# The certificate

`Cert.Claim`: the kernel and its idealization run to quiescence with their arguments unchanged, and so does the
reference; the idealization rewrote nothing; and over the extended reals device `c`'s result is row block `c` of the
reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealLaunch
public import proofs.«01_k».proof.Proof.SameProgram
public import proofs.«01_k».proof.Proof.Equation
public import Idealize.ShloMosaic.Adequacy
public import Idealize.ShloMosaic.Init

@[expose] public section

noncomputable section

namespace Cert.Proof

open Idealize.ShloMosaic Idealize.SL.Sem

/-- The kernel's frame: its run, read at the four argument arrays and the counters. -/
theorem frame_kernel : Cert.quiescent_Kernel := fun m ρ _ =>
  (θ_run Cert.Kernel.defs _ _).mono (fun _ h => ⟨fun c =>
      ⟨(h.1 c (0 : Fin 5)).trans (Cert.KernelIdealRun.finalA_in (F := Bits) m ρ c 0 rfl), (h.1 c (1 : Fin 5)).trans (Cert.KernelIdealRun.finalA_in (F := Bits) m ρ c 1 rfl),
        (h.1 c (2 : Fin 5)).trans (Cert.KernelIdealRun.finalA_in (F := Bits) m ρ c 2 rfl), (h.1 c (3 : Fin 5)).trans (Cert.KernelIdealRun.finalA_in (F := Bits) m ρ c 3 rfl)⟩, h.2⟩)
    (Cert.SameProgram.run (F := Bits) m ρ)

/-- The idealized kernel's frame. -/
theorem frame_ideal : Cert.quiescent_KernelIdeal := fun m ρ _ =>
  (θ_run Cert.KernelIdeal.defs _ _).mono (fun _ h => ⟨fun c =>
      ⟨(h.1 c (0 : Fin 5)).trans (Cert.KernelIdealRun.finalA_in m ρ c 0 rfl), (h.1 c (1 : Fin 5)).trans (Cert.KernelIdealRun.finalA_in m ρ c 1 rfl),
        (h.1 c (2 : Fin 5)).trans (Cert.KernelIdealRun.finalA_in m ρ c 2 rfl), (h.1 c (3 : Fin 5)).trans (Cert.KernelIdealRun.finalA_in m ρ c 3 rfl)⟩, h.2⟩)
    (Cert.KernelIdealRun.run_main (F := Ideal) m ρ)

/-- The reference has no semaphore. -/
theorem reference_sem (g : GSem Cert.ReferenceIdeal.nD Cert.ReferenceIdeal.τ Cert.ReferenceIdeal.sig) : False := by
  rcases g with ⟨_, s | s⟩ <;> exact s.elim0

/-- The reference's frame. -/
theorem frame_reference : Cert.quiescent_ReferenceIdeal := fun m ρ _ =>
  (θ_run Cert.ReferenceIdeal.defs _ _).mono (fun _ h => ⟨fun c => (h c).2, funext fun g => (reference_sem g).elim⟩)
    (Cert.ReferenceIdeal.Value.run (F := Ideal) m ρ)

/-- Over the extended reals, from memories that agree, each device's result array ends at its row block of the
    reference's result. -/
theorem algebraic : Cert.algebraic_KernelIdeal_ReferenceIdeal := fun m ρ m' ρ' _ hagree => by
  refine ⟨ReferenceValue.refOut (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3)), ?_, ?_⟩
  · refine (θ_run Cert.KernelIdeal.defs _ _).mono (fun r h c => ⟨?_, ?_, ?_, ?_, ?_⟩) (Cert.KernelIdealRun.run_main (F := Ideal) m ρ)
    · exact (h.1 c (4 : Fin 5)).trans ((Cert.KernelIdealRun.final_out m ρ c).trans (Equation.out_eq_block m ρ _ _ _ _
        (fun c => (hagree c).1) (fun c => (hagree c).2.1) (fun c => (hagree c).2.2.1) (fun c => (hagree c).2.2.2) c))
    · exact (h.1 c (0 : Fin 5)).trans (Cert.KernelIdealRun.finalA_in m ρ c 0 rfl)
    · exact (h.1 c (1 : Fin 5)).trans (Cert.KernelIdealRun.finalA_in m ρ c 1 rfl)
    · exact (h.1 c (2 : Fin 5)).trans (Cert.KernelIdealRun.finalA_in m ρ c 2 rfl)
    · exact (h.1 c (3 : Fin 5)).trans (Cert.KernelIdealRun.finalA_in m ρ c 3 rfl)
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
